-- ==== Defs.lean ====
def Pre_Kernel [hPre_segments_in_range : Cert.Pre_segments_in_range.Facts] (m : (ℓ : Loc Cert.Kernel.nD Cert.Kernel.τ Cert.Kernel.sig) → Buf (Elt Bits) ℓ) : Prop :=
  ∀ c : Dev Cert.Kernel.nD,
    (Cert.Pre_segments_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_segments_in_range : Cert.Pre_segments_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_segments_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_sorted_finite [hPre_sorted_finite : Cert.Pre_sorted_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_finite [hPre_sorted_finite : Cert.Pre_sorted_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_segments_in_range : Cert.Pre_segments_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_segments_in_range : Cert.Pre_segments_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_sorted_finite [hKernelIdeal : Cert.KernelIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_sorted_finite [hReferenceIdeal : Cert.ReferenceIdeal.Facts] [hPre_sorted_finite : Cert.Pre_sorted_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_sorted_finite [hKernelIdeal : Cert.KernelIdeal.Facts] [hReferenceIdeal : Cert.ReferenceIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_segments_in_range : Cert.Pre_segments_in_range.Facts) (hPre_sorted_finite : Cert.Pre_sorted_finite.Facts),
    quiescent_Kernel (hKernel := hKernel) (hPre_segments_in_range := hPre_segments_in_range)
    ∧ quiescent_KernelIdeal (hKernelIdeal := hKernelIdeal) (hPre_segments_in_range := hPre_segments_in_range)
    ∧ quiescent_KernelIdeal_pre_sorted_finite (hKernelIdeal := hKernelIdeal) (hPre_sorted_finite := hPre_sorted_finite)
    ∧ quiescent_ReferenceIdeal (hReferenceIdeal := hReferenceIdeal)
    ∧ quiescent_ReferenceIdeal_pre_sorted_finite (hReferenceIdeal := hReferenceIdeal) (hPre_sorted_finite := hPre_sorted_finite)
    ∧ preserves_Kernel_KernelIdeal
    ∧ algebraic_KernelIdeal_ReferenceIdeal_pre_sorted_finite (hKernelIdeal := hKernelIdeal) (hReferenceIdeal := hReferenceIdeal) (hPre_sorted_finite := hPre_sorted_finite)
-- ==== Pre_segments_in_range.lean ====
abbrev S100000x128 : Shape := ⟨2, ![100000, 128]⟩
abbrev S100000x3 : Shape := ⟨2, ![100000, 3]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S512x128 : Shape := ⟨2, ![512, 128]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : FVec F S100000x3 .f32) (main_arg2 : IVec S100000 32) (main_arg3 : FVec F S128x128 .f32) (main_arg4 : FVec F S128 .f32) (main_arg5 : FVec F S128x1 .f32) (main_arg6 : FVec F S1 .f32) (main_arg7 : FVec F S512x128 .f32) (main_arg8 : FVec F S128 .f32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 1000#32
  let main_v3 : IVec S100000 32 := broadcastInDim S100000 ![] bcast_S_S100000 main_c_1
  let main_v4 : IVec S100000 1 := cmpi .slt main_arg2 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  main_v6
-- ==== Pre_sorted_finite.lean ====
abbrev S100000x128 : Shape := ⟨2, ![100000, 128]⟩
abbrev S100000x3 : Shape := ⟨2, ![100000, 3]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S512x128 : Shape := ⟨2, ![512, 128]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_1 : S100000.Slices ![1] S99999
  slices_S100000_S99999_0 : S100000.Slices ![0] S99999
  reducesTo_S99999_S_d0 : S99999.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S100000x128 : S_.BroadcastsInDim S100000x128 (![] : Fin 0 → Fin S100000x128.rank)
  reducesTo_S100000x128_S_d0_1 : S100000x128.ReducesTo [0, 1] S_

variable [Facts]

def fn_part2 {F : FTy → Type} [FloatOps F] (main_v11 : IVec S_ 1) (main_v30 : IVec S_ 1) (main_v33 : IVec S100000x128 1) : IVec S_ 1 :=
  let main_c_12 : IVec S_ 1 := constantI S_ 1 1#1
  let main_v34 : IVec S_ 1 := (fun x v => Host.reduce IntOp.andi x v reducesTo_S100000x128_S_d0_1 h_S_) main_v33 main_c_12
  let main_v35 : IVec S_ 1 := andi main_v11 main_v34
  let main_v36 : IVec S_ 1 := andi main_v35 main_v30
  main_v36

def fn_part1 {F : FTy → Type} [FloatOps F] (main_arg0 : FVec F S100000x128 .f32) (main_arg5 : FVec F S128x1 .f32) (main_arg6 : FVec F S1 .f32) (main_v11 : IVec S_ 1) (main_v15 : IVec S_ 1) (main_v16 : FVec F S128 .f32) : IVec S_ 1 :=
  let main_cst_5 : FVec F S_ .f32 := constant S_ .f32 0x7F800000#32
  let main_v17 : FVec F S128 .f32 := broadcastInDim S128 ![] bcast_S_S128 main_cst_5
  let main_v18 : IVec S128 1 := cmpf .olt main_v16 main_v17
  let main_c_6 : IVec S_ 1 := constantI S_ 1 1#1
  let main_v19 : IVec S_ 1 := (fun x v => Host.reduce IntOp.andi x v reducesTo_S128_S_d0 h_S_) main_v18 main_c_6
  let main_v20 : IVec S_ 1 := andi main_v15 main_v19
  let main_v21 : FVec F S128x1 .f32 := Host.absf main_arg5
  let main_cst_7 : FVec F S_ .f32 := constant S_ .f32 0x7F800000#32
  let main_v22 : FVec F S128x1 .f32 := broadcastInDim S128x1 ![] bcast_S_S128x1 main_cst_7
  let main_v23 : IVec S128x1 1 := cmpf .olt main_v21 main_v22
  let main_c_8 : IVec S_ 1 := constantI S_ 1 1#1
  let main_v24 : IVec S_ 1 := (fun x v => Host.reduce IntOp.andi x v reducesTo_S128x1_S_d0_1 h_S_) main_v23 main_c_8
  let main_v25 : IVec S_ 1 := andi main_v20 main_v24
  let main_v26 : FVec F S1 .f32 := Host.absf main_arg6
  let main_cst_9 : FVec F S_ .f32 := constant S_ .f32 0x7F800000#32
  let main_v27 : FVec F S1 .f32 := broadcastInDim S1 ![] bcast_S_S1 main_cst_9
  let main_v28 : IVec S1 1 := cmpf .olt main_v26 main_v27
  let main_c_10 : IVec S_ 1 := constantI S_ 1 1#1
  let main_v29 : IVec S_ 1 := (fun x v => Host.reduce IntOp.andi x v reducesTo_S1_S_d0 h_S_) main_v28 main_c_10
  let main_v30 : IVec S_ 1 := andi main_v25 main_v29
  let main_v31 : FVec F S100000x128 .f32 := Host.absf main_arg0
  let main_cst_11 : FVec F S_ .f32 := constant S_ .f32 0x7F800000#32
  let main_v32 : FVec F S100000x128 .f32 := broadcastInDim S100000x128 ![] bcast_S_S100000x128 main_cst_11
  let main_v33 : IVec S100000x128 1 := cmpf .olt main_v31 main_v32
  fn_part2 (F := F) main_v11 main_v30 main_v33

def fn {F : FTy → Type} [FloatOps F] (main_arg0 : FVec F S100000x128 .f32) (main_arg1 : FVec F S100000x3 .f32) (main_arg2 : IVec S100000 32) (main_arg3 : FVec F S128x128 .f32) (main_arg4 : FVec F S128 .f32) (main_arg5 : FVec F S128x1 .f32) (main_arg6 : FVec F S1 .f32) (main_arg7 : FVec F S512x128 .f32) (main_arg8 : FVec F S128 .f32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 1000#32
  let main_v3 : IVec S100000 32 := broadcastInDim S100000 ![] bcast_S_S100000 main_c_1
  let main_v4 : IVec S100000 1 := cmpi .slt main_arg2 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_v7 : IVec S99999 32 := (extractStridedSlice S99999 ![1] · slices_S100000_S99999_1) main_arg2
  let main_v8 : IVec S99999 32 := (extractStridedSlice S99999 ![0] · slices_S100000_S99999_0) main_arg2
  let main_v9 : IVec S99999 1 := cmpi .sge main_v7 main_v8
  let main_c_3 : IVec S_ 1 := constantI S_ 1 1#1
  let main_v10 : IVec S_ 1 := (fun x v => Host.reduce IntOp.andi x v reducesTo_S99999_S_d0 h_S_) main_v9 main_c_3
  let main_v11 : IVec S_ 1 := andi main_v6 main_v10
  let main_v12 : FVec F S128x128 .f32 := Host.absf main_arg3
  let main_cst : FVec F S_ .f32 := constant S_ .f32 0x7F800000#32
  let main_v13 : FVec F S128x128 .f32 := broadcastInDim S128x128 ![] bcast_S_S128x128 main_cst
  let main_v14 : IVec S128x128 1 := cmpf .olt main_v12 main_v13
  let main_c_4 : IVec S_ 1 := constantI S_ 1 1#1
  let main_v15 : IVec S_ 1 := (fun x v => Host.reduce IntOp.andi x v reducesTo_S128x128_S_d0_1 h_S_) main_v14 main_c_4
  let main_v16 : FVec F S128 .f32 := Host.absf main_arg4
  fn_part1 (F := F) main_arg0 main_arg5 main_arg6 main_v11 main_v15 main_v16
-- ==== Kernel.lean ====
abbrev S100000x128 : Shape := ⟨2, ![100000, 128]⟩
abbrev S100000x3 : Shape := ⟨2, ![100000, 3]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S512x128 : Shape := ⟨2, ![512, 128]⟩
abbrev S250x1x400 : Shape := ⟨3, ![250, 1, 400]⟩
abbrev S100000x1 : Shape := ⟨2, ![100000, 1]⟩
abbrev S1x128 : Shape := ⟨2, ![1, 128]⟩
abbrev S1x1 : Shape := ⟨2, ![1, 1]⟩
abbrev S1000x128 : Shape := ⟨2, ![1000, 128]⟩
abbrev S1x1x400 : Shape := ⟨3, ![1, 1, 400]⟩
abbrev S400x128 : Shape := ⟨2, ![400, 128]⟩
abbrev S400x1 : Shape := ⟨2, ![400, 1]⟩
abbrev S1024x128 : Shape := ⟨2, ![1024, 128]⟩
abbrev S1024x1 : Shape := ⟨2, ![1024, 1]⟩
abbrev S400 : Shape := ⟨1, ![400]⟩
abbrev S1x1x1 : Shape := ⟨3, ![1, 1, 1]⟩
abbrev S1000x1 : Shape := ⟨2, ![1000, 1]⟩
abbrev S1000x512 : Shape := ⟨2, ![1000, 512]⟩

abbrev nBuf : Space → Nat
  | .hbm => 16
  | .vmem => 17
  | .smem => 2
  | _ => 0

abbrev bufTy : (tb : Table) → Fin (tcTables nBuf tb) → BufTy
  | .hbm, ⟨0, _⟩ => ⟨S100000x128, .f32⟩
  | .hbm, ⟨1, _⟩ => ⟨S100000x3, .f32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S512x128, .f32⟩
  | .hbm, ⟨8, _⟩ => ⟨S128, .f32⟩
  | .hbm, ⟨9, _⟩ => ⟨S250x1x400, .i32⟩
  | .hbm, ⟨10, _⟩ => ⟨S100000x1, .i32⟩
  | .hbm, ⟨11, _⟩ => ⟨S1x128, .f32⟩
  | .hbm, ⟨12, _⟩ => ⟨S1x128, .f32⟩
  | .hbm, ⟨13, _⟩ => ⟨S1x1, .f32⟩
  | .hbm, ⟨14, _⟩ => ⟨S1x128, .f32⟩
  | .hbm, ⟨15, _⟩ => ⟨S1000x128, .f32⟩
  | .local _ .vmem, ⟨0, _⟩ => ⟨S400x128, .f32⟩
  | .local _ .vmem, ⟨1, _⟩ => ⟨S400x128, .f32⟩
  | .local _ .vmem, ⟨2, _⟩ => ⟨S400x1, .i32⟩
  | .local _ .vmem, ⟨3, _⟩ => ⟨S400x1, .i32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x1, .f32⟩
  | .local _ .vmem, ⟨8, _⟩ => ⟨S512x128, .f32⟩
  | .local _ .vmem, ⟨9, _⟩ => ⟨S1x128, .f32⟩
  | .local _ .vmem, ⟨10, _⟩ => ⟨S1000x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .smem, ⟨0, _⟩ => ⟨S1x1x400, .i32⟩
  | .local _ .smem, ⟨1, _⟩ => ⟨S1x1x400, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![250], ![false]⟩

@[reducible] def k0_t1_loop (v27 : BitVec 32) (v28 : BitVec 32) : Scf.Loop 32 :=
  let c1_i32 : BitVec 32 := 1#32
  let v29 : BitVec 32 := Scalar.addi v28 c1_i32
  let v30 : BitVec 32 := Scalar.subi v29 v27
  let c1_i32_21 : BitVec 32 := 1#32
  let v32 : BitVec 32 := Scalar.divsi v30 c1_i32_21
  let v33 : BitVec 32 := Scalar.muli v32 c1_i32_21
  let v34 : BitVec 32 := Scalar.addi v27 v33
  let c1_i32_22 : BitVec 32 := 1#32
  ⟨v27, v34, c1_i32_22⟩

def k0_off1 (v27 : BitVec 32) (v28 : BitVec 32) (k0_t1 : Fin (k0_t1_loop v27 v28).trips) : Fin 2 → Nat :=
  let c1_i32_22 : BitVec 32 := 1#32
  let arg17 : BitVec 32 := Scf.iv v27 c1_i32_22 k0_t1
  let v60 : Index := Scalar.indexCast arg17
  let c0_32 : Index := 0#32
  ![v60.toNat, 0]
def k0_off2 (v27 : BitVec 32) (v28 : BitVec 32) (k0_t1 : Fin (k0_t1_loop v27 v28).trips) : Fin 2 → Nat :=
  let c1_i32_22 : BitVec 32 := 1#32
  let arg17 : BitVec 32 := Scf.iv v27 c1_i32_22 k0_t1
  let v74 : Index := Scalar.indexCast arg17
  let c0_36 : Index := 0#32
  ![v74.toNat, 0]
@[reducible] def k0_t2_loop (v27 : BitVec 32) (v28 : BitVec 32) : Scf.Loop 32 :=
  let c1_i32 : BitVec 32 := 1#32
  let v29 : BitVec 32 := Scalar.addi v28 c1_i32
  let v30 : BitVec 32 := Scalar.subi v29 v27
  let c1_i32_21 : BitVec 32 := 1#32
  let v32 : BitVec 32 := Scalar.divsi v30 c1_i32_21
  let v33 : BitVec 32 := Scalar.muli v32 c1_i32_21
  let v34 : BitVec 32 := Scalar.addi v27 v33
  let v31 : BitVec 32 := Scalar.addi v27 v30
  let c1_i32_23 : BitVec 32 := 1#32
  ⟨v34, v31, c1_i32_23⟩
def k0_off3 (v27 : BitVec 32) (v28 : BitVec 32) (k0_t2 : Fin (k0_t2_loop v27 v28).trips) : Fin 2 → Nat :=
  let c1_i32 : BitVec 32 := 1#32
  let v29 : BitVec 32 := Scalar.addi v28 c1_i32
  let v30 : BitVec 32 := Scalar.subi v29 v27
  let c1_i32_21 : BitVec 32 := 1#32
  let v32 : BitVec 32 := Scalar.divsi v30 c1_i32_21
  let v33 : BitVec 32 := Scalar.muli v32 c1_i32_21
  let v34 : BitVec 32 := Scalar.addi v27 v33
  let c1_i32_23 : BitVec 32 := 1#32
  let arg17 : BitVec 32 := Scf.iv v34 c1_i32_23 k0_t2
  let v60 : Index := Scalar.indexCast arg17
  let c0_32 : Index := 0#32
  ![v60.toNat, 0]
def k0_off4 (v27 : BitVec 32) (v28 : BitVec 32) (k0_t2 : Fin (k0_t2_loop v27 v28).trips) : Fin 2 → Nat :=
  let c1_i32 : BitVec 32 := 1#32
  let v29 : BitVec 32 := Scalar.addi v28 c1_i32
  let v30 : BitVec 32 := Scalar.subi v29 v27
  let c1_i32_21 : BitVec 32 := 1#32
  let v32 : BitVec 32 := Scalar.divsi v30 c1_i32_21
  let v33 : BitVec 32 := Scalar.muli v32 c1_i32_21
  let v34 : BitVec 32 := Scalar.addi v27 v33
  let c1_i32_23 : BitVec 32 := 1#32
  let arg17 : BitVec 32 := Scf.iv v34 c1_i32_23 k0_t2
  let v74 : Index := Scalar.indexCast arg17
  let c0_36 : Index := 0#32
  ![v74.toNat, 0]

def k0_chk1 (v27 : BitVec 32) (v28 : BitVec 32) : Prop :=
  ((k0_t1_loop v27 v28).OK) ∧
  (∀ k0_t1 : Fin (k0_t1_loop v27 v28).trips, ∀ a, (k0_off1 v27 v28 k0_t1) a + S1x1.size a ≤ S1024x1.size a) ∧
  (∀ k0_t1 : Fin (k0_t1_loop v27 v28).trips, ∀ a, (k0_off2 v27 v28 k0_t1) a + S1x128.size a ≤ S1024x128.size a) ∧
  ((k0_t2_loop v27 v28).OK) ∧
  (∀ k0_t2 : Fin (k0_t2_loop v27 v28).trips, ∀ a, (k0_off3 v27 v28 k0_t2) a + S1x1.size a ≤ S1024x1.size a) ∧
  (∀ k0_t2 : Fin (k0_t2_loop v27 v28).trips, ∀ a, (k0_off4 v27 v28 k0_t2) a + S1x128.size a ≤ S1024x128.size a)
theorem k0_t1_ok : ∀ (v27 : BitVec 32) (v28 : BitVec 32) (k0_hw1 : k0_chk1 v27 v28), (k0_t1_loop v27 v28).OK := fun v27 v28 k0_hw1 => k0_hw1.1
theorem k0_off1_inb : ∀ (v27 : BitVec 32) (v28 : BitVec 32) (k0_hw1 : k0_chk1 v27 v28) (k0_t1 : Fin (k0_t1_loop v27 v28).trips), ∀ a, (k0_off1 v27 v28 k0_t1) a + S1x1.size a ≤ S1024x1.size a := fun v27 v28 k0_hw1 k0_t1 => k0_hw1.2.1 k0_t1
theorem k0_off2_inb : ∀ (v27 : BitVec 32) (v28 : BitVec 32) (k0_hw1 : k0_chk1 v27 v28) (k0_t1 : Fin (k0_t1_loop v27 v28).trips), ∀ a, (k0_off2 v27 v28 k0_t1) a + S1x128.size a ≤ S1024x128.size a := fun v27 v28 k0_hw1 k0_t1 => k0_hw1.2.2.1 k0_t1
theorem k0_t2_ok : ∀ (v27 : BitVec 32) (v28 : BitVec 32) (k0_hw1 : k0_chk1 v27 v28), (k0_t2_loop v27 v28).OK := fun v27 v28 k0_hw1 => k0_hw1.2.2.2.1
theorem k0_off3_inb : ∀ (v27 : BitVec 32) (v28 : BitVec 32) (k0_hw1 : k0_chk1 v27 v28) (k0_t2 : Fin (k0_t2_loop v27 v28).trips), ∀ a, (k0_off3 v27 v28 k0_t2) a + S1x1.size a ≤ S1024x1.size a := fun v27 v28 k0_hw1 k0_t2 => k0_hw1.2.2.2.2.1 k0_t2
theorem k0_off4_inb : ∀ (v27 : BitVec 32) (v28 : BitVec 32) (k0_hw1 : k0_chk1 v27 v28) (k0_t2 : Fin (k0_t2_loop v27 v28).trips), ∀ a, (k0_off4 v27 v28 k0_t2) a + S1x128.size a ≤ S1024x128.size a := fun v27 v28 k0_hw1 k0_t2 => k0_hw1.2.2.2.2.2 k0_t2

def k0_cond2 (i : grid0.Coords) : BitVec 1 :=
  let arg0 : BitVec 32 := BitVec.ofNat 32 (i 0).val
  let c249_i32 : BitVec 32 := 249#32
  let v35 : BitVec 1 := Scalar.cmpi .eq arg0 c249_i32
  let v36 : BitVec 32 := Scalar.extui v35
  let c0_i32_24 : BitVec 32 := 0#32
  let v37 : BitVec 1 := Scalar.cmpi .ne v36 c0_i32_24
  v37

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .smem S1x1x400 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1000x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S100000x128 : Shape := ⟨2, ![100000, 128]⟩
abbrev S100000x3 : Shape := ⟨2, ![100000, 3]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S512x128 : Shape := ⟨2, ![512, 128]⟩
abbrev S1000 : Shape := ⟨1, ![1000]⟩
abbrev S1000x1 : Shape := ⟨2, ![1000, 1]⟩
abbrev S1x100000 : Shape := ⟨2, ![1, 100000]⟩
abbrev S1000x100000 : Shape := ⟨2, ![1000, 100000]⟩
abbrev S1000x100000x1 : Shape := ⟨3, ![1000, 100000, 1]⟩
abbrev S1x100000x128 : Shape := ⟨3, ![1, 100000, 128]⟩
abbrev S_ : Shape := ⟨0, ![]⟩
abbrev S1000x100000x128 : Shape := ⟨3, ![1000, 100000, 128]⟩
abbrev S1000x128 : Shape := ⟨2, ![1000, 128]⟩
abbrev S100000x1 : Shape := ⟨2, ![100000, 1]⟩
abbrev S1x128 : Shape := ⟨2, ![1, 128]⟩
abbrev S1x1 : Shape := ⟨2, ![1, 1]⟩
abbrev S1x100000x1 : Shape := ⟨3, ![1, 100000, 1]⟩
abbrev S1000x512 : Shape := ⟨2, ![1000, 512]⟩

abbrev nBuf : Space → Nat
  | .hbm => 130
  | .vmem => 0
  | .smem => 0
  | _ => 0

abbrev hbmTy0_0 (i : Nat) : BufTy := match i % 128 with
  | 0 => ⟨S100000x128, .f32⟩
  | 1 => ⟨S100000x3, .f32⟩
  | 2 => ⟨S100000, .i32⟩
  | 3 => ⟨S128x128, .f32⟩
  | 4 => ⟨S128, .f32⟩
  | 5 => ⟨S128x1, .f32⟩
  | 6 => ⟨S1, .f32⟩
  | 7 => ⟨S512x128, .f32⟩
  | 8 => ⟨S128, .f32⟩
  | 9 => ⟨S1000, .i32⟩
  | 10 => ⟨S1000x1, .i32⟩
  | 11 => ⟨S1x100000, .i32⟩
  | 12 => ⟨S1000x100000, .i32⟩
  | 13 => ⟨S1000x100000, .i32⟩
  | 14 => ⟨S1000x100000, .i1⟩
  | 15 => ⟨S1000x100000x1, .i1⟩
  | 16 => ⟨S1x100000x128, .f32⟩
  | 17 => ⟨S_, .f32⟩
  | 18 => ⟨S_, .f32⟩
  | 19 => ⟨S1000x100000x128, .i1⟩
  | 20 => ⟨S1000x100000x128, .f32⟩
  | 21 => ⟨S1000x100000x128, .f32⟩
  | 22 => ⟨S1000x100000x128, .f32⟩
  | 23 => ⟨S_, .f32⟩
  | 24 => ⟨S1000x128, .f32⟩
  | 25 => ⟨S1000x128, .f32⟩
  | 26 => ⟨S_, .f32⟩
  | 27 => ⟨S1000x128, .f32⟩
  | 28 => ⟨S1000x128, .i1⟩
  | 29 => ⟨S_, .f32⟩
  | 30 => ⟨S_, .f32⟩
  | 31 => ⟨S1000x128, .f32⟩
  | 32 => ⟨S1000x128, .f32⟩
  | 33 => ⟨S_, .f32⟩
  | 34 => ⟨S1000x128, .f32⟩
  | 35 => ⟨S100000x1, .i32⟩
  | 36 => ⟨S1000x128, .f32⟩
  | 37 => ⟨S_, .f32⟩
  | 38 => ⟨S100000x1, .f32⟩
  | 39 => ⟨S_, .f32⟩
  | 40 => ⟨S1000x1, .f32⟩
  | 41 => ⟨S100000x1, .i32⟩
  | 42 => ⟨S1000x1, .f32⟩
  | 43 => ⟨S_, .f32⟩
  | 44 => ⟨S1000x1, .f32⟩
  | 45 => ⟨S1000x1, .f32⟩
  | 46 => ⟨S1000x128, .f32⟩
  | 47 => ⟨S1000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S_, .f32⟩
  | 54 => ⟨S100000x128, .f32⟩
  | 55 => ⟨S100000x128, .i1⟩
  | 56 => ⟨S_, .f32⟩
  | 57 => ⟨S100000x128, .f32⟩
  | 58 => ⟨S100000x128, .f32⟩
  | 59 => ⟨S100000x128, .f32⟩
  | 60 => ⟨S100000x1, .f32⟩
  | 61 => ⟨S1x1, .f32⟩
  | 62 => ⟨S100000x1, .f32⟩
  | 63 => ⟨S100000x1, .f32⟩
  | 64 => ⟨S100000, .f32⟩
  | 65 => ⟨S100000x1, .f32⟩
  | 66 => ⟨S1000, .i32⟩
  | 67 => ⟨S1000x1, .i32⟩
  | 68 => ⟨S1x100000, .i32⟩
  | 69 => ⟨S1000x100000, .i32⟩
  | 70 => ⟨S1000x100000, .i32⟩
  | 71 => ⟨S1000x100000, .i1⟩
  | 72 => ⟨S1000x100000x1, .i1⟩
  | 73 => ⟨S1x100000x1, .f32⟩
  | 74 => ⟨S_, .f32⟩
  | 75 => ⟨S_, .f32⟩
  | 76 => ⟨S1000x100000x1, .f32⟩
  | 77 => ⟨S1000x100000x1, .f32⟩
  | 78 => ⟨S1000x100000x1, .f32⟩
  | 79 => ⟨S_, .f32⟩
  | 80 => ⟨S1000x1, .f32⟩
  | 81 => ⟨S1000, .f32⟩
  | 82 => ⟨S1000, .f32⟩
  | 83 => ⟨S_, .f32⟩
  | 84 => ⟨S1000, .f32⟩
  | 85 => ⟨S1000, .i1⟩
  | 86 => ⟨S_, .f32⟩
  | 87 => ⟨S_, .f32⟩
  | 88 => ⟨S1000, .f32⟩
  | 89 => ⟨S1000, .f32⟩
  | 90 => ⟨S_, .i32⟩
  | 91 => ⟨S100000, .i32⟩
  | 92 => ⟨S100000, .i1⟩
  | 93 => ⟨S_, .i32⟩
  | 94 => ⟨S100000, .i32⟩
  | 95 => ⟨S100000, .i32⟩
  | 96 => ⟨S100000, .i32⟩
  | 97 => ⟨S100000x1, .i32⟩
  | 98 => ⟨S100000, .f32⟩
  | 99 => ⟨S100000, .f32⟩
  | 100 => ⟨S100000, .f32⟩
  | 101 => ⟨S_, .f32⟩
  | 102 => ⟨S1000, .f32⟩
  | 103 => ⟨S100000x1, .i32⟩
  | 104 => ⟨S1000, .f32⟩
  | 105 => ⟨S_, .i32⟩
  | 106 => ⟨S100000, .i32⟩
  | 107 => ⟨S100000, .i1⟩
  | 108 => ⟨S_, .i32⟩
  | 109 => ⟨S100000, .i32⟩
  | 110 => ⟨S100000, .i32⟩
  | 111 => ⟨S100000, .i32⟩
  | 112 => ⟨S100000x1, .i32⟩
  | 113 => ⟨S100000, .f32⟩
  | 114 => ⟨S_, .f32⟩
  | 115 => ⟨S100000, .f32⟩
  | 116 => ⟨S100000, .f32⟩
  | 117 => ⟨S100000, .f32⟩
  | 118 => ⟨S100000x1, .f32⟩
  | 119 => ⟨S100000x128, .f32⟩
  | 120 => ⟨S100000x128, .f32⟩
  | 121 => ⟨S_, .f32⟩
  | 122 => ⟨S1000x128, .f32⟩
  | 123 => ⟨S100000x1, .i32⟩
  | 124 => ⟨S1000x128, .f32⟩
  | 125 => ⟨S1000x512, .f32⟩
  | 126 => ⟨S1000x128, .f32⟩
  | 127 => ⟨S1x128, .f32⟩
  | _ => ⟨S100000x128, .f32⟩

abbrev hbmTy0_1 (i : Nat) : BufTy := match i % 128 with
  | 0 => ⟨S1000x128, .f32⟩
  | 1 => ⟨S1000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_4 : Ref sig .tc := ⟨.hbm, 37, rfl⟩
abbrev main_v17 : Ref sig .tc := ⟨.hbm, 38, rfl⟩
abbrev main_cst_5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_6 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_call2_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v44 : Ref sig .tc := ⟨.hbm, 78, rfl⟩
abbrev main_cst_9 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_10 : Ref sig .tc := ⟨.hbm, 83, rfl⟩
abbrev main_v48 : Ref sig .tc := ⟨.hbm, 84, rfl⟩
abbrev main_v49 : Ref sig .tc := ⟨.hbm, 85, rfl⟩
abbrev main_cst_11 : Ref sig .tc := ⟨.hbm, 86, rfl⟩
abbrev main_call4_v0 : Ref sig .tc := ⟨.hbm, 87, rfl⟩
abbrev main_call4_v1 : Ref sig .tc := ⟨.hbm, 88, rfl⟩
abbrev main_v50 : Ref sig .tc := ⟨.hbm, 89, rfl⟩
abbrev main_c : Ref sig .tc := ⟨.hbm, 90, rfl⟩
abbrev main_v51 : Ref sig .tc := ⟨.hbm, 91, rfl⟩
abbrev main_v52 : Ref sig .tc := ⟨.hbm, 92, rfl⟩
abbrev main_c_12 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_13 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_14 : Ref sig .tc := ⟨.hbm, 105, rfl⟩
abbrev main_v63 : Ref sig .tc := ⟨.hbm, 106, rfl⟩
abbrev main_v64 : Ref sig .tc := ⟨.hbm, 107, rfl⟩
abbrev main_c_15 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_16 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_17 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩

abbrev nD : Nat := 1
abbrev τ : Topo := Topo.v7x

variable {F : FTy → Type} [FloatOps F]
-- ==== Proof.Pre.lean ====
/-
  What the two preconditions say of the arguments, element by element: the segment ids lie in [0, 1000) and, for the second, do not
  decrease, and every element of the input and of the two layers' weights and biases is finite.
-/
module

public import proofs.«01_k».proof.Pre_segments_in_range
public import proofs.«01_k».proof.Pre_sorted_finite
public import Idealize.ShloMosaic.PureOps.Ideal
public import Idealize.ShloMosaic.PureOps.BitExact
public import Idealize.ShloMosaic.Lib.ReduceAll
public import Idealize.ShloMosaic.Lib.WordCmp
public import Idealize.ShloMosaic.Lib.Pipeline.Value
public import Idealize.ShloMosaic.Lib.ValueLayoutCasts

@[expose] public section

noncomputable section

namespace Cert.Proof

open Idealize.ShloMosaic Idealize.ShloMosaic.ValueIdx

instance (s : Fin 0 → Nat) : Subsingleton (Shape.Idx ⟨0, s⟩) := ⟨fun a b => funext fun i => i.elim0⟩

/-- A conjunction of two bits is one just when both are. -/
theorem and_one {a b : BitVec 1} (h : IntOp.andi a b = 1#1) : a = 1#1 ∧ b = 1#1 := by
  revert a b; decide

section
open Cert.Pre_segments_in_range
variable [Cert.Pre_segments_in_range.Facts] {F : FTy → Type} [FloatOps F]

/-- Under the first precondition every segment id lies in [0, 1000). -/
theorem inRange_of (a0 : FVec F S100000x128 .f32) (a1 : FVec F S100000x3 .f32) (a2 : IVec S100000 32) (a3 : FVec F S128x128 .f32)
    (a4 : FVec F S128 .f32) (a5 : FVec F S128x1 .f32) (a6 : FVec F S1 .f32) (a7 : FVec F S512x128 .f32) (a8 : FVec F S128 .f32)
    (h : fn a0 a1 a2 a3 a4 a5 a6 a7 a8 = fun _ => 1#1) (n : S100000.Idx) : 0 ≤ (a2 n).toInt ∧ (a2 n).toInt < 1000 := by
  have h0 := congrFun h (fun i => i.elim0)
  unfold fn at h0
  obtain ⟨h1, h2⟩ := and_one h0
  have e1 : IntOp.cmpi .sge (a2 n) 0#32 = 1#1 := Host.reduce_andi_all _ _ _ _ _ h1 n
  have e2 : IntOp.cmpi .slt (a2 n) 1000#32 = 1#1 := Host.reduce_andi_all _ _ _ _ _ h2 n
  rw [WordCmp.cmpi_sge_eq, WordCmp.ofBool_decide_eq_one_iff] at e1
  rw [WordCmp.cmpi_slt_eq, WordCmp.ofBool_decide_eq_one_iff] at e2
  exact ⟨e1, e2⟩

end

/-- A finite extended real's absolute value compares below infinity, and only a finite one's does. -/
theorem finite_of (x : Ideal .f32) (h : FloatOps.cmpf .olt (FloatOps.hostAbsf x) (FloatOps.ofBits (F := Ideal) .f32 0x7F800000#32) = 1#1) :
    (x : EReal) ≠ ⊤ ∧ (x : EReal) ≠ ⊥ := by
  have ht : (FloatOps.ofBits (F := Ideal) .f32 0x7F800000#32 : EReal) = ⊤ := by
    show Ideal.ofBits .f32 0x7F800000#32 = ⊤
    simp [Ideal.ofBits, Ideal.ieee]
  have h' : Ideal.cmp .olt (max (x : EReal) (-x)) (FloatOps.ofBits (F := Ideal) .f32 0x7F800000#32) = 1#1 := h
  rw [ht] at h'
  unfold Ideal.cmp at h'
  rw [WordCmp.ofBool_decide_eq_one_iff] at h'
  constructor
  · intro e; rw [e] at h'; simp at h'
  · intro e; rw [e] at h'; simp at h'

section
open Cert.Pre_sorted_finite
variable [Cert.Pre_sorted_finite.Facts]

/-- What the second precondition says. -/
structure SortedFinite (a0 : FVec Ideal S100000x128 .f32) (a2 : IVec S100000 32) (a3 : FVec Ideal S128x128 .f32)
    (a4 : FVec Ideal S128 .f32) (a5 : FVec Ideal S128x1 .f32) (a6 : FVec Ideal S1 .f32) : Prop where
  range : ∀ n, 0 ≤ (a2 n).toInt ∧ (a2 n).toInt < 1000
  step : ∀ n : Fin 99999, (a2 (ix1 n.castSucc)).toInt ≤ (a2 (ix1 n.succ)).toInt
  fin0 : ∀ i, (a0 i : EReal) ≠ ⊤ ∧ (a0 i : EReal) ≠ ⊥
  fin3 : ∀ i, (a3 i : EReal) ≠ ⊤ ∧ (a3 i : EReal) ≠ ⊥
  fin4 : ∀ i, (a4 i : EReal) ≠ ⊤ ∧ (a4 i : EReal) ≠ ⊥
  fin5 : ∀ i, (a5 i : EReal) ≠ ⊤ ∧ (a5 i : EReal) ≠ ⊥
  fin6 : ∀ i, (a6 i : EReal) ≠ ⊤ ∧ (a6 i : EReal) ≠ ⊥

/-- The second precondition's facts. -/
theorem sortedFinite_of (a0 : FVec Ideal S100000x128 .f32) (a1 : FVec Ideal S100000x3 .f32) (a2 : IVec S100000 32) (a3 : FVec Ideal S128x128 .f32)
    (a4 : FVec Ideal S128 .f32) (a5 : FVec Ideal S128x1 .f32) (a6 : FVec Ideal S1 .f32) (a7 : FVec Ideal S512x128 .f32) (a8 : FVec Ideal S128 .f32)
    (h : fn a0 a1 a2 a3 a4 a5 a6 a7 a8 = fun _ => 1#1) : SortedFinite a0 a2 a3 a4 a5 a6 := by
  have h0 := congrFun h (fun i => i.elim0)
  unfold fn fn_part1 fn_part2 at h0
  obtain ⟨h1, h30⟩ := and_one h0
  obtain ⟨h11, h34⟩ := and_one h1
  obtain ⟨h6, h10⟩ := and_one h11
  obtain ⟨h2, h5⟩ := and_one h6
  obtain ⟨h25, h29⟩ := and_one h30
  obtain ⟨h20, h24⟩ := and_one h25
  obtain ⟨h15, h19⟩ := and_one h20
  refine ⟨fun n => ?_, fun n => ?_, fun i => ?_, fun i => ?_, fun i => ?_, fun i => ?_, fun i => ?_⟩
  · have e1 : IntOp.cmpi .sge (a2 n) 0#32 = 1#1 := Host.reduce_andi_all _ _ _ _ _ h2 n
    have e2 : IntOp.cmpi .slt (a2 n) 1000#32 = 1#1 := Host.reduce_andi_all _ _ _ _ _ h5 n
    rw [WordCmp.cmpi_sge_eq, WordCmp.ofBool_decide_eq_one_iff] at e1
    rw [WordCmp.cmpi_slt_eq, WordCmp.ofBool_decide_eq_one_iff] at e2
    exact ⟨e1, e2⟩
  · have e := Host.reduce_andi_all _ _ _ _ _ h10 (ix1 n)
    have e' : IntOp.cmpi .sge (a2 (ix1 n.succ)) (a2 (ix1 n.castSucc)) = 1#1 := by
      refine Eq.trans ?_ e
      refine congrArg₂ (IntOp.cmpi .sge) (congrArg a2 (funext fun a => Fin.ext ?_)) (congrArg a2 (funext fun a => Fin.ext ?_))
      · match a with | ⟨0, _⟩ => show n.val + 1 = 1 + n.val; omega
      · match a with | ⟨0, _⟩ => show n.val = 0 + n.val; omega
    rw [WordCmp.cmpi_sge_eq, WordCmp.ofBool_decide_eq_one_iff] at e'
    exact e'
  · exact finite_of _ (Host.reduce_andi_all _ _ _ _ _ h34 i)
  · exact finite_of _ (Host.reduce_andi_all _ _ _ _ _ h15 i)
  · exact finite_of _ (Host.reduce_andi_all _ _ _ _ _ h19 i)
  · exact finite_of _ (Host.reduce_andi_all _ _ _ _ _ h24 i)
  · exact finite_of _ (Host.reduce_andi_all _ _ _ _ _ h29 i)

end

end Cert.Proof

end
-- ==== Proof.KI.Trip.lean ====
/-
  One trip of the segment loop, and the whole segment loop, over the six scratch accumulators: each trip reads and
  rewrites the one row its segment id names in every accumulator. Stated over any reading of the floats.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Tactic
public import Idealize.ShloMosaic.PureOps.BitExact

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- No loop of the program is a while loop: the variants are none. -/
abbrev 𝒱₀ : Variants := Variants.none

/-- The six accumulators' contents: running sum, running maximum, weighted sum, count, denominator, running score
    maximum, one row per segment. -/
structure St (F : FTy → Type) [FloatOps F] where
  sum : FVec F S1024x128 .f32
  max : FVec F S1024x128 .f32
  num : FVec F S1024x128 .f32
  cnt : FVec F S1024x1 .f32
  den : FVec F S1024x1 .f32
  top : FVec F S1024x1 .f32

/-- The six accumulators held at a state. -/
def pts (c : Dev nD) (S : St F) : sProp 𝕄 :=
  iprop((((c : Thread nD τ).loc cc0_scratch0) ↦{fullShare} (S.sum : Buf (Elt F) ((c : Thread nD τ).loc cc0_scratch0)))
    ∗ (((c : Thread nD τ).loc cc0_scratch1) ↦{fullShare} (S.max : Buf (Elt F) ((c : Thread nD τ).loc cc0_scratch1)))
    ∗ (((c : Thread nD τ).loc cc0_scratch2) ↦{fullShare} (S.num : Buf (Elt F) ((c : Thread nD τ).loc cc0_scratch2)))
    ∗ (((c : Thread nD τ).loc cc0_scratch3) ↦{fullShare} (S.cnt : Buf (Elt F) ((c : Thread nD τ).loc cc0_scratch3)))
    ∗ (((c : Thread nD τ).loc cc0_scratch4) ↦{fullShare} (S.den : Buf (Elt F) ((c : Thread nD τ).loc cc0_scratch4)))
    ∗ (((c : Thread nD τ).loc cc0_scratch5) ↦{fullShare} (S.top : Buf (Elt F) ((c : Thread nD τ).loc cc0_scratch5))))

/-- The one-column accumulators' row of a trip. -/
abbrev r1 (v27 v28 : BitVec 32) (hw : k0_chk1 v27 v28) (k : Fin (k0_t1_loop v27 v28).trips) : Rect S1024x1 :=
  Rect.unit (s := S1024x1) (k0_off1 v27 v28 k) S1x1.size (k0_off1_inb v27 v28 hw k)

/-- The wide accumulators' row of a trip. -/
abbrev r2 (v27 v28 : BitVec 32) (hw : k0_chk1 v27 v28) (k : Fin (k0_t1_loop v27 v28).trips) : Rect S1024x128 :=
  Rect.unit (s := S1024x128) (k0_off2 v27 v28 k) S1x128.size (k0_off2_inb v27 v28 hw k)

/-- A trip's new state. -/
def tripSt (v3 : FVec F S400x128 .f32) (v24 : FVec F S400x1 .f32) (v26 : IVec S400x1 32) (v27 v28 : BitVec 32)
    (hw : k0_chk1 v27 v28) (k : Fin (k0_t1_loop v27 v28).trips) (S : St F) : St F where
  sum := ((Memref.whole cc0_scratch0).access (r2 v27 v28 hw k)).write (Elt F) S.sum
    (k0_pay18 v3 v26 v27 v28 1#32 k ((Memref.whole cc0_scratch0).view.readAt (Elt F) (r2 v27 v28 hw k).toLoadRect S.sum)) Finset.univ
  max := ((Memref.whole cc0_scratch1).access (r2 v27 v28 hw k)).write (Elt F) S.max
    (k0_pay1 (k0_pay13 v3 v26 v27 v28 1#32 k) ((Memref.whole cc0_scratch1).view.readAt (Elt F) (r2 v27 v28 hw k).toLoadRect S.max)) Finset.univ
  num := ((Memref.whole cc0_scratch2).access (r2 v27 v28 hw k)).write (Elt F) S.num
    (k0_pay5 v3 (k0_pay16 v24 v26 v27 v28 1#32 k ((Memref.whole cc0_scratch5).view.readAt (Elt F) (r1 v27 v28 hw k).toLoadRect S.top))
      (k0_pay17 v24 v26 v27 v28 1#32 k ((Memref.whole cc0_scratch5).view.readAt (Elt F) (r1 v27 v28 hw k).toLoadRect S.top)) ((Memref.whole cc0_scratch2).view.readAt (Elt F) (r2 v27 v28 hw k).toLoadRect S.num)) Finset.univ
  cnt := ((Memref.whole cc0_scratch3).access (r1 v27 v28 hw k)).write (Elt F) S.cnt
    (k0_pay2 (k0_pay14 v26 v27 v28 1#32 k) ((Memref.whole cc0_scratch3).view.readAt (Elt F) (r1 v27 v28 hw k).toLoadRect S.cnt)) Finset.univ
  den := ((Memref.whole cc0_scratch4).access (r1 v27 v28 hw k)).write (Elt F) S.den
    (k0_pay4 (k0_pay16 v24 v26 v27 v28 1#32 k ((Memref.whole cc0_scratch5).view.readAt (Elt F) (r1 v27 v28 hw k).toLoadRect S.top))
      (k0_pay17 v24 v26 v27 v28 1#32 k ((Memref.whole cc0_scratch5).view.readAt (Elt F) (r1 v27 v28 hw k).toLoadRect S.top)) ((Memref.whole cc0_scratch4).view.readAt (Elt F) (r1 v27 v28 hw k).toLoadRect S.den)) Finset.univ
  top := ((Memref.whole cc0_scratch5).access (r1 v27 v28 hw k)).write (Elt F) S.top
    (k0_pay3 (k0_pay15 v24 v26 v27 v28 1#32 k ((Memref.whole cc0_scratch5).view.readAt (Elt F) (r1 v27 v28 hw k).toLoadRect S.top))) Finset.univ

section
variable (c : Dev nD) (i : grid0.Coords)
  (arg1 : Memref sig .tc .smem S1x1x400 .i32) (harg1 : arg1.IsWhole) (arg2 : Memref sig .tc .vmem S400x128 .f32) (harg2 : arg2.IsWhole)
  (arg3 : Memref sig .tc .vmem S400x1 .i32) (harg3 : arg3.IsWhole) (arg4 : Memref sig .tc .vmem S128x128 .f32) (harg4 : arg4.IsWhole)
  (arg5 : Memref sig .tc .vmem S1x128 .f32) (harg5 : arg5.IsWhole) (arg6 : Memref sig .tc .vmem S1x128 .f32) (harg6 : arg6.IsWhole)
  (arg7 : Memref sig .tc .vmem S1x1 .f32) (harg7 : arg7.IsWhole) (arg8 : Memref sig .tc .vmem S512x128 .f32) (harg8 : arg8.IsWhole)
  (arg9 : Memref sig .tc .vmem S1x128 .f32) (harg9 : arg9.IsWhole) (arg10 : Memref sig .tc .vmem S1000x128 .f32) (harg10 : arg10.IsWhole)

/-- The segment loop's body at the accumulators. -/
abbrev tripProg (v3 : Vec F S400x128 .f32) (v24 : FVec F S400x1 .f32) (v26 : IVec S400x1 32) (v27 v28 : Elt F .i32)
    (hw : k0_chk1 v27 v28) : Fin (k0_t1_loop v27 v28).trips → Unit → Prog (TpuEff nD τ sig (Elt F) Λ₀ .tc) Unit :=
  k0_t1_body i arg1 harg1 arg2 harg2 arg3 harg3 arg4 harg4 arg5 harg5 arg6 harg6 arg7 harg7 arg8 harg8 arg9 harg9 arg10 harg10
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _) v3 v24 v26 v27 v28 hw

/-- One trip takes the accumulators from a state to the trip's new state. -/
theorem trip_wp (v3 : Vec F S400x128 .f32) (v24 : FVec F S400x1 .f32) (v26 : IVec S400x1 32) (v27 v28 : Elt F .i32)
    (hw : k0_chk1 v27 v28) (k : Fin (k0_t1_loop v27 v28).trips) (u : Unit) (S : St F) :
    pts c S ⊢ wp frame (wpE (defs₀ (F := F)) 𝒱₀ (c : Thread nD τ) none) Set.univ
      (tripProg i arg1 harg1 arg2 harg2 arg3 harg3 arg4 harg4 arg5 harg5 arg6 harg6 arg7 harg7 arg8 harg8 arg9 harg9 arg10 harg10
        v3 v24 v26 v27 v28 hw k u) (fun _ => pts c (tripSt v3 v24 v26 v27 v28 hw k S)) := by
  unfold tripProg k0_t1_body
  rw [k0_part1_eq_skeleton]
  unfold k0_part1_skel
  simp only [Prog.lift, Prog.bind_op, Prog.bind_ret, Prog.pure_eq_ret]
  unfold pts
  iintro ⟨H0, H1, H2, H3, H4, H5⟩
  iapply (wp_load 𝒱₀ (c : Thread nD τ) none Set.univ (m := Memref.whole cc0_scratch5) (Finset.subset_univ _)) $$ H5
  iintro H5
  iapply (wp_load 𝒱₀ (c : Thread nD τ) none Set.univ (m := Memref.whole cc0_scratch0) (Finset.subset_univ _)) $$ H0
  iintro H0
  iapply (wp_load 𝒱₀ (c : Thread nD τ) none Set.univ (m := Memref.whole cc0_scratch0) (Finset.subset_univ _)) $$ H0
  iintro H0
  iapply (wp_store 𝒱₀ (c : Thread nD τ) none Set.univ (m := Memref.whole cc0_scratch0) (r := r2 v27 v28 hw k) (Mk := Finset.univ) (Finset.subset_univ _)) $$ H0
  iintro H0
  iapply (wp_load 𝒱₀ (c : Thread nD τ) none Set.univ (m := Memref.whole cc0_scratch1) (Finset.subset_univ _)) $$ H1
  iintro H1
  iapply (wp_load 𝒱₀ (c : Thread nD τ) none Set.univ (m := Memref.whole cc0_scratch1) (Finset.subset_univ _)) $$ H1
  iintro H1
  iapply (wp_store 𝒱₀ (c : Thread nD τ) none Set.univ (m := Memref.whole cc0_scratch1) (r := r2 v27 v28 hw k) (Mk := Finset.univ) (Finset.subset_univ _)) $$ H1
  iintro H1
  iapply (wp_load 𝒱₀ (c : Thread nD τ) none Set.univ (m := Memref.whole cc0_scratch3) (Finset.subset_univ _)) $$ H3
  iintro H3
  iapply (wp_load 𝒱₀ (c : Thread nD τ) none Set.univ (m := Memref.whole cc0_scratch3) (Finset.subset_univ _)) $$ H3
  iintro H3
  iapply (wp_store 𝒱₀ (c : Thread nD τ) none Set.univ (m := Memref.whole cc0_scratch3) (r := r1 v27 v28 hw k) (Mk := Finset.univ) (Finset.subset_univ _)) $$ H3
  iintro H3
  iapply (wp_load 𝒱₀ (c : Thread nD τ) none Set.univ (m := Memref.whole cc0_scratch5) (Finset.subset_univ _)) $$ H5
  iintro H5
  iapply (wp_store 𝒱₀ (c : Thread nD τ) none Set.univ (m := Memref.whole cc0_scratch5) (r := r1 v27 v28 hw k) (Mk := Finset.univ) (Finset.subset_univ _)) $$ H5
  iintro H5
  iapply (wp_load 𝒱₀ (c : Thread nD τ) none Set.univ (m := Memref.whole cc0_scratch4) (Finset.subset_univ _)) $$ H4
  iintro H4
  iapply (wp_load 𝒱₀ (c : Thread nD τ) none Set.univ (m := Memref.whole cc0_scratch4) (Finset.subset_univ _)) $$ H4
  iintro H4
  iapply (wp_store 𝒱₀ (c : Thread nD τ) none Set.univ (m := Memref.whole cc0_scratch4) (r := r1 v27 v28 hw k) (Mk := Finset.univ) (Finset.subset_univ _)) $$ H4
  iintro H4
  iapply (wp_load 𝒱₀ (c : Thread nD τ) none Set.univ (m := Memref.whole cc0_scratch2) (Finset.subset_univ _)) $$ H2
  iintro H2
  iapply (wp_load 𝒱₀ (c : Thread nD τ) none Set.univ (m := Memref.whole cc0_scratch2) (Finset.subset_univ _)) $$ H2
  iintro H2
  iapply (wp_store 𝒱₀ (c : Thread nD τ) none Set.univ (m := Memref.whole cc0_scratch2) (r := r2 v27 v28 hw k) (Mk := Finset.univ) (Finset.subset_univ _)) $$ H2
  iintro H2
  rw [wp_ret]
  imodintro
  dsimp only [tripSt]
  isplitl [H0]; · iexact H0
  isplitl [H1]; · iexact H1
  isplitl [H2]; · iexact H2
  isplitl [H3]; · iexact H3
  isplitl [H4]; · iexact H4
  iexact H5

/-- The state before a trip, from the state before the loop. -/
def stateTo (v3 : FVec F S400x128 .f32) (v24 : FVec F S400x1 .f32) (v26 : IVec S400x1 32) (v27 v28 : BitVec 32)
    (hw : k0_chk1 v27 v28) (S : St F) : ℕ → St F
  | 0 => S
  | k + 1 => if h : k < (k0_t1_loop v27 v28).trips then tripSt v3 v24 v26 v27 v28 hw ⟨k, h⟩ (stateTo v3 v24 v26 v27 v28 hw S k)
      else stateTo v3 v24 v26 v27 v28 hw S k

/-- The state after all the trips. -/
abbrev loopSt (v3 : FVec F S400x128 .f32) (v24 : FVec F S400x1 .f32) (v26 : IVec S400x1 32) (v27 v28 : BitVec 32)
    (hw : k0_chk1 v27 v28) (S : St F) : St F :=
  stateTo v3 v24 v26 v27 v28 hw S (k0_t1_loop v27 v28).trips

/-- The loop's step at the running state. -/
theorem loop_step (v3 : Vec F S400x128 .f32) (v24 : FVec F S400x1 .f32) (v26 : IVec S400x1 32) (v27 v28 : Elt F .i32)
    (hw : k0_chk1 v27 v28) (S : St F) (k : Fin (k0_t1_loop v27 v28).trips) (u : Unit) :
    pts c (stateTo v3 v24 v26 v27 v28 hw S k.val) ⊢ wp frame (wpE (defs₀ (F := F)) 𝒱₀ (c : Thread nD τ) none) Set.univ
      (tripProg i arg1 harg1 arg2 harg2 arg3 harg3 arg4 harg4 arg5 harg5 arg6 harg6 arg7 harg7 arg8 harg8 arg9 harg9 arg10 harg10
        v3 v24 v26 v27 v28 hw k u) (fun _ => pts c (stateTo v3 v24 v26 v27 v28 hw S (k.val + 1))) := by
  have e : stateTo v3 v24 v26 v27 v28 hw S (k.val + 1) = tripSt v3 v24 v26 v27 v28 hw k (stateTo v3 v24 v26 v27 v28 hw S k.val) := by
    simp only [stateTo, k.isLt, dite_true, Fin.eta]
  rw [e]
  exact trip_wp c i arg1 harg1 arg2 harg2 arg3 harg3 arg4 harg4 arg5 harg5 arg6 harg6 arg7 harg7 arg8 harg8 arg9 harg9 arg10 harg10
    v3 v24 v26 v27 v28 hw k u _

end

end Cert.Proof.KernelIdeal

end
-- ==== Proof.KI.Chk.lean ====
/-
  The segment loop's words: with the block's first and last segment ids in [0, 1000) the loop has a meaning, its trips
  run over the ids from the first to the last, every row it names lies inside the accumulators, and the remainder loop
  runs no trip.
-/
module

public import proofs.«01_k».proof.Proof.Gen.KernelIdeal.Frame
public import Idealize.ShloMosaic.Lib.Affine
public import Idealize.ShloMosaic.Lib.WordArith

@[expose] public section

namespace Cert.Proof.KernelIdeal

open Cert.KernelIdeal Cert.KernelIdeal.Gen
open Idealize.ShloMosaic Idealize.ShloMosaic.TcCoe Idealize.ShloMosaic.WordArith

/-- A word that is a segment id. -/
def IsSeg (a : BitVec 32) : Prop := 0 ≤ a.toInt ∧ a.toInt < 1000

/-- The segment loop's bounds mean something, its trip count is the id range's length, the remainder loop is empty. -/
theorem seg_loop (a b : BitVec 32) (ha : IsSeg a) (hb : IsSeg b) :
    (k0_t1_loop a b).OK ∧ (k0_t1_loop a b).trips ≤ (b.toInt + 1 - a.toInt).toNat
      ∧ (k0_t1_loop a b).trips = (b.toInt + 1 - a.toInt).toNat
      ∧ (k0_t2_loop a b).OK ∧ (k0_t2_loop a b).trips = 0 := by
  obtain ⟨ha0, ha1⟩ := ha
  obtain ⟨hb0, hb1⟩ := hb
  have h1 : Affine.IsInt 1#32 1 := Affine.ofNat _ (by omega)
  have hA : Affine.IsInt a a.toInt := Affine.word a
  have hB : Affine.IsInt b b.toInt := Affine.word b
  have h29 : Affine.IsInt _ (b.toInt + 1) := Affine.addi hB h1 (by omega)
  have h30 : Affine.IsInt _ (b.toInt + 1 - a.toInt) := Affine.subi h29 hA (by omega)
  have h32 : Affine.IsInt _ (b.toInt + 1 - a.toInt) := Affine.divsi_one h30 h1 (by omega)
  have h33 : Affine.IsInt _ (b.toInt + 1 - a.toInt) := Affine.muli h32 h1 (by omega)
  have h34 : Affine.IsInt _ (b.toInt + 1) := Affine.addi hA h33 (by omega)
  have h31 : Affine.IsInt _ (b.toInt + 1) := Affine.addi hA h30 (by omega)
  have ub : (k0_t1_loop a b).ub.toInt = b.toInt + 1 := by unfold Affine.IsInt at h34; exact h34
  refine ⟨Affine.ok hA h34 h1 (by omega), Affine.trips_le hA h34 h1 _ (by omega), ?_, Affine.ok h34 h31 h1 (by omega),
    Nat.le_zero.1 (Affine.trips_le h34 h31 h1 _ (by omega))⟩
  show (((k0_t1_loop a b).ub.toInt - a.toInt + (1#32 : BitVec 32).toInt - 1) / (1#32 : BitVec 32).toInt).toNat = _
  rw [ub, show (1#32 : BitVec 32).toInt = 1 from by decide, Int.ediv_one]
  congr 1; omega

/-- The id a trip handles, as an integer. -/
theorem seg_iv (a b : BitVec 32) (ha : IsSeg a) (hb : IsSeg b) (k : Fin (k0_t1_loop a b).trips) :
    (Scf.iv a 1#32 k.val).toInt = a.toInt + k.val ∧ a.toInt + k.val ≤ b.toInt := by
  have hk : (k : ℕ) < (b.toInt + 1 - a.toInt).toNat := Nat.lt_of_lt_of_le k.isLt (seg_loop a b ha hb).2.1
  obtain ⟨ha0, ha1⟩ := ha
  obtain ⟨hb0, hb1⟩ := hb
  have h1 : Affine.IsInt 1#32 1 := Affine.ofNat _ (by omega)
  refine ⟨?_, by omega⟩
  have h : Affine.IsInt (Scf.iv a 1#32 k.val) (a.toInt + k.val) := Affine.iv (Affine.word a) h1 _ (by omega)
  unfold Affine.IsInt at h; exact h

/-- The id a trip handles, as a natural number: the row it names. -/
theorem seg_iv_toNat (a b : BitVec 32) (ha : IsSeg a) (hb : IsSeg b) (k : Fin (k0_t1_loop a b).trips) :
    (Scf.iv a 1#32 k.val).toNat = a.toInt.toNat + k.val ∧ a.toInt.toNat + k.val < 1000 := by
  obtain ⟨h1, h2⟩ := seg_iv a b ha hb k
  obtain ⟨ha0, ha1⟩ := ha
  obtain ⟨hb0, hb1⟩ := hb
  refine ⟨?_, by omega⟩
  have h3 : (Scf.iv a 1#32 k.val).toInt = ((Scf.iv a 1#32 k.val).toNat : Int) := by
    have := BitVec.toInt_eq_toNat_cond (Scf.iv a 1#32 k.val)
    have hl := (Scf.iv a 1#32 k.val).isLt
    split at this <;> omega
  omega

/-- The one-column rows' offsets of a trip. -/
theorem off1_eq (a b : BitVec 32) (ha : IsSeg a) (hb : IsSeg b) (k : Fin (k0_t1_loop a b).trips) :
    k0_off1 a b k = ![a.toInt.toNat + k.val, 0] := by
  rw [← (seg_iv_toNat a b ha hb k).1]; rfl

/-- The wide rows' offsets of a trip. -/
theorem off2_eq (a b : BitVec 32) (ha : IsSeg a) (hb : IsSeg b) (k : Fin (k0_t1_loop a b).trips) :
    k0_off2 a b k = ![a.toInt.toNat + k.val, 0] := by
  rw [← (seg_iv_toNat a b ha hb k).1]; rfl

/-- The side condition the body assumes holds of two segment ids. -/
theorem chk_of (a b : BitVec 32) (ha : IsSeg a) (hb : IsSeg b) : k0_chk1 a b := by
  have hl := seg_loop a b ha hb
  refine ⟨hl.1, fun k => ?_, fun k => ?_, hl.2.2.2.1, fun k => ?_, fun k => ?_⟩
  · have := (seg_iv_toNat a b ha hb k).2
    rw [off1_eq a b ha hb k]; intro x; fin_cases x <;> simp <;> omega
  · have := (seg_iv_toNat a b ha hb k).2
    rw [off2_eq a b ha hb k]; intro x; fin_cases x <;> simp <;> omega
  · exact absurd k.isLt (by omega)
  · exact absurd k.isLt (by omega)

end Cert.Proof.KernelIdeal

end
-- ==== Proof.KI.Body.lean ====
/-
  The kernel's body at one grid point, run on any staging buffers: the first point clears the accumulators, every point
  runs the segment loop over its block, the last point writes the result from the accumulators.
-/
module

public import proofs.«01_k».proof.Proof.KI.Trip
public import proofs.«01_k».proof.Proof.KI.Chk

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The block's first segment id. -/
def fstW (b : Vec F S1x1x400 .i32) : BitVec 32 :=
  b ((Rect.unit (s := S1x1x400) ![0, 0, 0] S1x1x1.size inb_S1x1x400_S1x1x1_0_0_0).emb
    (Shape.Idx.first (numel1_S1x1x1.symm ▸ Nat.one_pos)))

/-- The block's last segment id. -/
def lstW (b : Vec F S1x1x400 .i32) : BitVec 32 :=
  b ((Rect.unit (s := S1x1x400) ![0, 0, 399] S1x1x1.size inb_S1x1x400_S1x1x1_0_0_399).emb
    (Shape.Idx.first (numel1_S1x1x1.symm ▸ Nat.one_pos)))

/-- The cleared accumulators. -/
def initSt : St F := ⟨k0_pay26, k0_pay27, k0_pay28, k0_pay29, k0_pay30, k0_pay31⟩

/-- The first grid point's test. -/
abbrev cond1 (i : grid0.Coords) : Prop :=
  Scalar.cmpi .ne (Scalar.extui (Scalar.cmpi .eq (BitVec.ofNat 32 (i 0).val) 0#32) : BitVec 32) 0#32 = 1#1

/-- The accumulators after a grid point's segment loop. -/
def pointSt (b : Vec F S1x1x400 .i32) (x : FVec F S400x128 .f32) (bc : IVec S400x1 32) (W1 : FVec F S128x128 .f32)
    (b1 w2 : FVec F S1x128 .f32) (b2 : FVec F S1x1 .f32) (hw : k0_chk1 (fstW b) (lstW b)) (S : St F) : St F :=
  loopSt x (k0_pay32 x W1 b1 w2 b2) (k0_pay33 (F := F) bc) (fstW b) (lstW b) hw S

/-- The first thousand rows of a wide accumulator. -/
abbrev rows2 (r : Ref sig .tc) : Rect S1024x128 := Rect.unit (s := S1024x128) ![0, 0] S1000x128.size inb_S1024x128_S1000x128_0_0
/-- The first thousand rows of a one-column accumulator. -/
abbrev rows1 (r : Ref sig .tc) : Rect S1024x1 := Rect.unit (s := S1024x1) ![0, 0] S1000x1.size inb_S1024x1_S1000x1_0_0

/-- The result the last point writes from the accumulators. -/
def outOf (S : St F) (Wf : FVec F S512x128 .f32) (bf : FVec F S1x128 .f32) : FVec F S1000x128 .f32 :=
  k0_pay11 ((Memref.whole cc0_scratch0).view.readAt (Elt F) (rows2 cc0_scratch0).toLoadRect S.sum)
    ((Memref.whole cc0_scratch1).view.readAt (Elt F) (rows2 cc0_scratch1).toLoadRect S.max)
    ((Memref.whole cc0_scratch3).view.readAt (Elt F) (rows1 cc0_scratch3).toLoadRect S.cnt)
    ((Memref.whole cc0_scratch2).view.readAt (Elt F) (rows2 cc0_scratch2).toLoadRect S.num)
    ((Memref.whole cc0_scratch4).view.readAt (Elt F) (rows1 cc0_scratch4).toLoadRect S.den) Wf bf

/-- A load through the rectangle of a view's own sizes at zero offsets reads what the view reads. -/
theorem readAt_unit0 {κ : Kind} {sp : Space} {s : Shape} {e : EltTy} (v : View sig κ sp s e) {off : Fin s.rank → ℕ}
    (h : off = fun _ => 0) (inb : ∀ a, off a + s.size a ≤ s.size a) (f : v.ty.Contents (Elt F)) :
    v.readAt (Elt F) (Rect.unit off s.size inb).toLoadRect f = v.read (Elt F) f := by
  subst h
  funext x
  show v.read (Elt F) f ((Rect.whole s).emb x) = _
  rw [Rect.emb_whole_apply]

/-- A store through the rectangle of a whole view's own sizes at zero offsets leaves the payload to be read. -/
theorem read_write_unit0 {κ : Kind} {sp : Space} {s : Shape} {e : EltTy} (v : View sig κ sp s e) {off : Fin s.rank → ℕ}
    (h : off = fun _ => 0) (inb : ∀ a, off a + s.size a ≤ s.size a) (f : v.ty.Contents (Elt F)) (w : s.Idx → Elt F e) :
    v.read (Elt F) ((v.slice (Rect.unit off s.size inb)).write (Elt F) f w Finset.univ) = w := by
  rw [← readAt_unit0 v h inb, View.readAt_rect, View.read_write_univ]

/-- Two zero offsets. -/
theorem zero2 : (![0, 0] : Fin 2 → ℕ) = fun _ => 0 := by funext a; fin_cases a <;> rfl

-- a store over a whole accumulator leaves the payload
/-- Writing all of accumulator 0 replaces it. -/
theorem wr0 (f w : FVec F S1024x128 .f32) :
    ((Memref.whole cc0_scratch0).access (Rect.unit (s := S1024x128) ![0, 0] S1024x128.size inb_S1024x128_S1024x128_0_0)).write (Elt F) f w Finset.univ
      = w := Memref.write_access_unit_zero_univ (Elt F) cc0_scratch0 zero2 _ f w
/-- Writing all of accumulator 1 replaces it. -/
theorem wr1 (f w : FVec F S1024x128 .f32) :
    ((Memref.whole cc0_scratch1).access (Rect.unit (s := S1024x128) ![0, 0] S1024x128.size inb_S1024x128_S1024x128_0_0)).write (Elt F) f w Finset.univ
      = w := Memref.write_access_unit_zero_univ (Elt F) cc0_scratch1 zero2 _ f w
/-- Writing all of accumulator 2 replaces it. -/
theorem wr2 (f w : FVec F S1024x128 .f32) :
    ((Memref.whole cc0_scratch2).access (Rect.unit (s := S1024x128) ![0, 0] S1024x128.size inb_S1024x128_S1024x128_0_0)).write (Elt F) f w Finset.univ
      = w := Memref.write_access_unit_zero_univ (Elt F) cc0_scratch2 zero2 _ f w
/-- Writing all of accumulator 3 replaces it. -/
theorem wr3 (f w : FVec F S1024x1 .f32) :
    ((Memref.whole cc0_scratch3).access (Rect.unit (s := S1024x1) ![0, 0] S1024x1.size inb_S1024x1_S1024x1_0_0)).write (Elt F) f w Finset.univ
      = w := Memref.write_access_unit_zero_univ (Elt F) cc0_scratch3 zero2 _ f w
/-- Writing all of accumulator 4 replaces it. -/
theorem wr4 (f w : FVec F S1024x1 .f32) :
    ((Memref.whole cc0_scratch4).access (Rect.unit (s := S1024x1) ![0, 0] S1024x1.size inb_S1024x1_S1024x1_0_0)).write (Elt F) f w Finset.univ
      = w := Memref.write_access_unit_zero_univ (Elt F) cc0_scratch4 zero2 _ f w
/-- Writing all of accumulator 5 replaces it. -/
theorem wr5 (f w : FVec F S1024x1 .f32) :
    ((Memref.whole cc0_scratch5).access (Rect.unit (s := S1024x1) ![0, 0] S1024x1.size inb_S1024x1_S1024x1_0_0)).write (Elt F) f w Finset.univ
      = w := Memref.write_access_unit_zero_univ (Elt F) cc0_scratch5 zero2 _ f w

/-- A statement about a value found on the way, then proved. -/
theorem cut {α : Type 1} {K : α → Prop} {G : Prop} (R : α) (main : K R → G) (key : K R) : G := main key

section
variable (c : Dev nD) (i : grid0.Coords)
  (arg1 : Memref sig .tc .smem S1x1x400 .i32) (harg1 : arg1.IsWhole) (arg2 : Memref sig .tc .vmem S400x128 .f32) (harg2 : arg2.IsWhole)
  (arg3 : Memref sig .tc .vmem S400x1 .i32) (harg3 : arg3.IsWhole) (arg4 : Memref sig .tc .vmem S128x128 .f32) (harg4 : arg4.IsWhole)
  (arg5 : Memref sig .tc .vmem S1x128 .f32) (harg5 : arg5.IsWhole) (arg6 : Memref sig .tc .vmem S1x128 .f32) (harg6 : arg6.IsWhole)
  (arg7 : Memref sig .tc .vmem S1x1 .f32) (harg7 : arg7.IsWhole) (arg8 : Memref sig .tc .vmem S512x128 .f32) (harg8 : arg8.IsWhole)
  (arg9 : Memref sig .tc .vmem S1x128 .f32) (harg9 : arg9.IsWhole) (arg10 : Memref sig .tc .vmem S1000x128 .f32) (harg10 : arg10.IsWhole)
  (b : Vec F S1x1x400 .i32) (x : FVec F S400x128 .f32) (bc : IVec S400x1 32) (W1 : FVec F S128x128 .f32)
  (b1 w2 : FVec F S1x128 .f32) (b2 : FVec F S1x1 .f32) (Wf : FVec F S512x128 .f32) (bf : FVec F S1x128 .f32) (d : FVec F S1000x128 .f32)

/-- The kernel's body on the staging buffers and the accumulators. -/
abbrev bodyProg : Prog (TpuEff nD τ sig (Elt F) Λ₀ .tc) PUnit :=
  cc0__body i arg1 harg1 arg2 harg2 arg3 harg3 arg4 harg4 arg5 harg5 arg6 harg6 arg7 harg7 arg8 harg8 arg9 harg9 arg10 harg10
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)

set_option maxHeartbeats 1000000 in
/-- The body at a grid point takes the accumulators to the point's, keeps the operands' blocks, and at the last point leaves the
    result in its buffer (elsewhere leaves that buffer alone). -/
theorem body_wp (hw : k0_chk1 (fstW b) (lstW b)) (ht2 : (k0_t2_loop (fstW b) (lstW b)).trips = 0) (S S' : St F)
    (hS : S' = pointSt b x bc W1 b1 w2 b2 hw (if cond1 i then initSt else S))
    (d' : FVec F S1000x128 .f32) (hd : d' = if k0_cond2 i = 1#1 then outOf S' Wf bf else d) :
    iprop(pts c S ∗ owns (c : Thread nD τ) arg1 fullShare b ∗ owns (c : Thread nD τ) arg2 fullShare x ∗ owns (c : Thread nD τ) arg3 fullShare bc ∗ owns (c : Thread nD τ) arg4 fullShare W1 ∗ owns (c : Thread nD τ) arg5 fullShare b1 ∗ owns (c : Thread nD τ) arg6 fullShare w2 ∗ owns (c : Thread nD τ) arg7 fullShare b2 ∗ owns (c : Thread nD τ) arg8 fullShare Wf ∗ owns (c : Thread nD τ) arg9 fullShare bf ∗ owns (c : Thread nD τ) arg10 fullShare d)
      ⊢ wp frame (wpE (defs₀ (F := F)) 𝒱₀ (c : Thread nD τ) none) Set.univ
        (bodyProg i arg1 harg1 arg2 harg2 arg3 harg3 arg4 harg4 arg5 harg5 arg6 harg6 arg7 harg7 arg8 harg8 arg9 harg9 arg10 harg10)
        (fun _ => iprop(pts c S' ∗ owns (c : Thread nD τ) arg1 fullShare b ∗ owns (c : Thread nD τ) arg2 fullShare x ∗ owns (c : Thread nD τ) arg3 fullShare bc ∗ owns (c : Thread nD τ) arg4 fullShare W1 ∗ owns (c : Thread nD τ) arg5 fullShare b1 ∗ owns (c : Thread nD τ) arg6 fullShare w2 ∗ owns (c : Thread nD τ) arg7 fullShare b2 ∗ owns (c : Thread nD τ) arg8 fullShare Wf ∗ owns (c : Thread nD τ) arg9 fullShare bf ∗ owns (c : Thread nD τ) arg10 fullShare d')) := by
  unfold owns
  iintro ⟨HS, ⟨%f1, %e1, A1⟩, ⟨%f2, %e2, A2⟩, ⟨%f3, %e3, A3⟩, ⟨%f4, %e4, A4⟩, ⟨%f5, %e5, A5⟩, ⟨%f6, %e6, A6⟩, ⟨%f7, %e7, A7⟩, ⟨%f8, %e8, A8⟩, ⟨%f9, %e9, A9⟩, ⟨%f10, %e10, A10⟩⟩
  unfold bodyProg
  rw [cc0__body_eq_skeleton]
  unfold cc0__body_skel
  rw [k0_part3_eq_skeleton]
  unfold k0_part3_skel
  simp only [smemLoad, smemLoadElt, Prog.lift, Prog.bind_op, Prog.bind_ret, Prog.pure_eq_ret]
  -- the rest of the body after the first point's clearing, the same on both sides of its test
  apply cut (K := fun R : Prog (TpuEff nD τ sig (Elt F) Λ₀ .tc) PUnit => ∀ S0 : St F, S0 = (if cond1 i then initSt else S) →
      (iprop(pts c S0 ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))
        ⊢ wp frame (wpE (defs₀ (F := F)) 𝒱₀ (c : Thread nD τ) none) Set.univ R
          (fun _ => iprop(pts c S' ∗ (∃ f, ⌜arg1.view.read (Elt F) f = b⌝ ∗ (arg1.view.loc (c : Thread nD τ) ↦[arg1.view.set]{fullShare} f)) ∗ (∃ f, ⌜arg2.view.read (Elt F) f = x⌝ ∗ (arg2.view.loc (c : Thread nD τ) ↦[arg2.view.set]{fullShare} f)) ∗ (∃ f, ⌜arg3.view.read (Elt F) f = bc⌝ ∗ (arg3.view.loc (c : Thread nD τ) ↦[arg3.view.set]{fullShare} f)) ∗ (∃ f, ⌜arg4.view.read (Elt F) f = W1⌝ ∗ (arg4.view.loc (c : Thread nD τ) ↦[arg4.view.set]{fullShare} f)) ∗ (∃ f, ⌜arg5.view.read (Elt F) f = b1⌝ ∗ (arg5.view.loc (c : Thread nD τ) ↦[arg5.view.set]{fullShare} f)) ∗ (∃ f, ⌜arg6.view.read (Elt F) f = w2⌝ ∗ (arg6.view.loc (c : Thread nD τ) ↦[arg6.view.set]{fullShare} f)) ∗ (∃ f, ⌜arg7.view.read (Elt F) f = b2⌝ ∗ (arg7.view.loc (c : Thread nD τ) ↦[arg7.view.set]{fullShare} f)) ∗ (∃ f, ⌜arg8.view.read (Elt F) f = Wf⌝ ∗ (arg8.view.loc (c : Thread nD τ) ↦[arg8.view.set]{fullShare} f)) ∗ (∃ f, ⌜arg9.view.read (Elt F) f = bf⌝ ∗ (arg9.view.loc (c : Thread nD τ) ↦[arg9.view.set]{fullShare} f)) ∗ (∃ f, ⌜arg10.view.read (Elt F) f = d'⌝ ∗ (arg10.view.loc (c : Thread nD τ) ↦[arg10.view.set]{fullShare} f))))))
  case main =>
    intro key
    by_cases hc : cond1 i
    · simp only [dif_pos hc, Prog.bind_op, Prog.bind_ret]
      unfold pts
      icases HS with ⟨H0, H1, H2, H3, H4, H5⟩
      iapply (wp_load 𝒱₀ (c : Thread nD τ) none Set.univ (m := Memref.whole cc0_scratch0) (Finset.subset_univ _)) $$ H0
      iintro H0
      iapply (wp_store 𝒱₀ (c : Thread nD τ) none Set.univ (m := Memref.whole cc0_scratch0)
        (r := Rect.unit (s := S1024x128) ![0, 0] S1024x128.size inb_S1024x128_S1024x128_0_0) (Mk := Finset.univ) (Finset.subset_univ _)) $$ H0
      iintro H0
      iapply (wp_load 𝒱₀ (c : Thread nD τ) none Set.univ (m := Memref.whole cc0_scratch1) (Finset.subset_univ _)) $$ H1
      iintro H1
      iapply (wp_store 𝒱₀ (c : Thread nD τ) none Set.univ (m := Memref.whole cc0_scratch1)
        (r := Rect.unit (s := S1024x128) ![0, 0] S1024x128.size inb_S1024x128_S1024x128_0_0) (Mk := Finset.univ) (Finset.subset_univ _)) $$ H1
      iintro H1
      iapply (wp_load 𝒱₀ (c : Thread nD τ) none Set.univ (m := Memref.whole cc0_scratch2) (Finset.subset_univ _)) $$ H2
      iintro H2
      iapply (wp_store 𝒱₀ (c : Thread nD τ) none Set.univ (m := Memref.whole cc0_scratch2)
        (r := Rect.unit (s := S1024x128) ![0, 0] S1024x128.size inb_S1024x128_S1024x128_0_0) (Mk := Finset.univ) (Finset.subset_univ _)) $$ H2
      iintro H2
      iapply (wp_load 𝒱₀ (c : Thread nD τ) none Set.univ (m := Memref.whole cc0_scratch3) (Finset.subset_univ _)) $$ H3
      iintro H3
      iapply (wp_store 𝒱₀ (c : Thread nD τ) none Set.univ (m := Memref.whole cc0_scratch3)
        (r := Rect.unit (s := S1024x1) ![0, 0] S1024x1.size inb_S1024x1_S1024x1_0_0) (Mk := Finset.univ) (Finset.subset_univ _)) $$ H3
      iintro H3
      iapply (wp_load 𝒱₀ (c : Thread nD τ) none Set.univ (m := Memref.whole cc0_scratch4) (Finset.subset_univ _)) $$ H4
      iintro H4
      iapply (wp_store 𝒱₀ (c : Thread nD τ) none Set.univ (m := Memref.whole cc0_scratch4)
        (r := Rect.unit (s := S1024x1) ![0, 0] S1024x1.size inb_S1024x1_S1024x1_0_0) (Mk := Finset.univ) (Finset.subset_univ _)) $$ H4
      iintro H4
      iapply (wp_load 𝒱₀ (c : Thread nD τ) none Set.univ (m := Memref.whole cc0_scratch5) (Finset.subset_univ _)) $$ H5
      iintro H5
      iapply (wp_store 𝒱₀ (c : Thread nD τ) none Set.univ (m := Memref.whole cc0_scratch5)
        (r := Rect.unit (s := S1024x1) ![0, 0] S1024x1.size inb_S1024x1_S1024x1_0_0) (Mk := Finset.univ) (Finset.subset_univ _)) $$ H5
      iintro H5

      rw [wr0, wr1, wr2, wr3, wr4, wr5]
      iapply (key initSt (by rw [if_pos hc]))
      isplitl [H0 H1 H2 H3 H4 H5]
      · unfold pts initSt; dsimp only
        isplitl [H0]; · iexact H0
        isplitl [H1]; · iexact H1
        isplitl [H2]; · iexact H2
        isplitl [H3]; · iexact H3
        isplitl [H4]; · iexact H4
        iexact H5
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      iexact A10
    · simp only [dif_neg hc, Prog.bind_op, Prog.bind_ret]
      iapply (key S (by rw [if_neg hc]))
      isplitl [HS]; · iexact HS
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      iexact A10
  case key =>
    intro S0 hS0
    rw [← hS0] at hS
    iintro ⟨HS, A1, A2, A3, A4, A5, A6, A7, A8, A9, A10⟩
    iapply (wp_load 𝒱₀ (c : Thread nD τ) none Set.univ (m := arg2) (View.setOn_subset_set _ _)) $$ A2
    iintro A2
    rw [readAt_unit0 arg2.view zero2 inb_S400x128_S400x128_0_0 f2, e2]
    iapply (wp_load 𝒱₀ (c : Thread nD τ) none Set.univ (m := arg4) (View.setOn_subset_set _ _)) $$ A4
    iintro A4
    rw [readAt_unit0 arg4.view zero2 inb_S128x128_S128x128_0_0 f4, e4]
    iapply (wp_load 𝒱₀ (c : Thread nD τ) none Set.univ (m := arg5) (View.setOn_subset_set _ _)) $$ A5
    iintro A5
    rw [readAt_unit0 arg5.view zero2 inb_S1x128_S1x128_0_0 f5, e5]
    iapply (wp_load 𝒱₀ (c : Thread nD τ) none Set.univ (m := arg6) (View.setOn_subset_set _ _)) $$ A6
    iintro A6
    rw [readAt_unit0 arg6.view zero2 inb_S1x128_S1x128_0_0 f6, e6]
    iapply (wp_load 𝒱₀ (c : Thread nD τ) none Set.univ (m := arg7) (View.setOn_subset_set _ _)) $$ A7
    iintro A7
    rw [readAt_unit0 arg7.view zero2 inb_S1x1_S1x1_0_0 f7, e7]
    iapply (wp_load 𝒱₀ (c : Thread nD τ) none Set.univ (m := arg3) (View.setOn_subset_set _ _)) $$ A3
    iintro A3
    rw [readAt_unit0 arg3.view zero2 inb_S400x1_S400x1_0_0 f3, e3]
    have q1 : (arg1.access (Rect.unit (s := S1x1x400) ![0, 0, 0] S1x1x1.size inb_S1x1x400_S1x1x1_0_0_0)).read (Elt F) f1
        (Shape.Idx.first (numel1_S1x1x1.symm ▸ Nat.one_pos)) = fstW b := by subst e1; rfl
    have q2 : (arg1.access (Rect.unit (s := S1x1x400) ![0, 0, 399] S1x1x1.size inb_S1x1x400_S1x1x1_0_0_399)).read (Elt F) f1
        (Shape.Idx.first (numel1_S1x1x1.symm ▸ Nat.one_pos)) = lstW b := by subst e1; rfl
    iapply (wp_load_rect 𝒱₀ (c : Thread nD τ) none Set.univ (m := arg1) (r := Rect.unit (s := S1x1x400) ![0, 0, 0] S1x1x1.size inb_S1x1x400_S1x1x1_0_0_0)
      (View.set_slice_subset _ _)) $$ A1
    iintro A1
    iapply (wp_load_rect 𝒱₀ (c : Thread nD τ) none Set.univ (m := arg1) (r := Rect.unit (s := S1x1x400) ![0, 0, 399] S1x1x1.size inb_S1x1x400_S1x1x1_0_0_399)
      (View.set_slice_subset _ _)) $$ A1
    iintro A1
    generalize hp1 : (arg1.access (Rect.unit (s := S1x1x400) ![0, 0, 0] S1x1x1.size inb_S1x1x400_S1x1x1_0_0_0)).read (Elt F) f1
        (Shape.Idx.first (numel1_S1x1x1.symm ▸ Nat.one_pos)) = p1
    generalize hp2 : (arg1.access (Rect.unit (s := S1x1x400) ![0, 0, 399] S1x1x1.size inb_S1x1x400_S1x1x1_0_0_399)).read (Elt F) f1
        (Shape.Idx.first (numel1_S1x1x1.symm ▸ Nat.one_pos)) = p2
    obtain rfl : p1 = fstW b := hp1.symm.trans q1
    obtain rfl : p2 = lstW b := hp2.symm.trans q2
    iapply (wp_assume 𝒱₀ (c : Thread nD τ) none Set.univ hw)
    simp only [Prog.bind_ret]
    iapply (Scf.wp_for_bind frame (wpE (defs₀ (F := F)) 𝒱₀ (c : Thread nD τ) none) Set.univ (k0_t1_loop (fstW b) (lstW b)).lb
      (k0_t1_loop (fstW b) (lstW b)).ub (k0_t1_loop (fstW b) (lstW b)).st (k0_t1_ok (fstW b) (lstW b) hw) _ _
      (fun k _ => pts c (stateTo x (k0_pay32 x W1 b1 w2 b2) (k0_pay33 (F := F) bc) (fstW b) (lstW b) hw S0 k))
      (fun k u => loop_step c i arg1 harg1 arg2 harg2 arg3 harg3 arg4 harg4 arg5 harg5 arg6 harg6 arg7 harg7 arg8 harg8 arg9 harg9 arg10 harg10 x _ _ _ _ hw S0 k u)) $$ [HS]
    · iexact HS
    iintro %u1 HS
    iapply (Scf.wp_for_bind frame (wpE (defs₀ (F := F)) 𝒱₀ (c : Thread nD τ) none) Set.univ (k0_t2_loop (fstW b) (lstW b)).lb
      (k0_t2_loop (fstW b) (lstW b)).ub (k0_t2_loop (fstW b) (lstW b)).st (k0_t2_ok (fstW b) (lstW b) hw) _ _
      (fun _ _ => pts c (loopSt x (k0_pay32 x W1 b1 w2 b2) (k0_pay33 (F := F) bc) (fstW b) (lstW b) hw S0))
      (fun k u => absurd k.isLt (fun h => Nat.not_lt_zero _ (Nat.lt_of_lt_of_eq h ht2)))) $$ [HS]
    · iexact HS
    iintro %u2 HS
    rw [show loopSt x (k0_pay32 x W1 b1 w2 b2) (k0_pay33 (F := F) bc) (fstW b) (lstW b) hw S0 = S' from hS.symm]
    by_cases hl : k0_cond2 i = 1#1
    · simp only [dif_pos hl]
      rw [if_pos hl] at hd
      unfold pts
      icases HS with ⟨H0, H1, H2, H3, H4, H5⟩
      iapply (wp_load 𝒱₀ (c : Thread nD τ) none Set.univ (m := Memref.whole cc0_scratch0) (Finset.subset_univ _)) $$ H0
      iintro H0
      iapply (wp_load 𝒱₀ (c : Thread nD τ) none Set.univ (m := Memref.whole cc0_scratch1) (Finset.subset_univ _)) $$ H1
      iintro H1
      iapply (wp_load 𝒱₀ (c : Thread nD τ) none Set.univ (m := Memref.whole cc0_scratch3) (Finset.subset_univ _)) $$ H3
      iintro H3
      iapply (wp_load 𝒱₀ (c : Thread nD τ) none Set.univ (m := Memref.whole cc0_scratch2) (Finset.subset_univ _)) $$ H2
      iintro H2
      iapply (wp_load 𝒱₀ (c : Thread nD τ) none Set.univ (m := Memref.whole cc0_scratch4) (Finset.subset_univ _)) $$ H4
      iintro H4
      iapply (wp_load 𝒱₀ (c : Thread nD τ) none Set.univ (m := arg8) (View.setOn_subset_set _ _)) $$ A8
      iintro A8
      rw [readAt_unit0 arg8.view zero2 inb_S512x128_S512x128_0_0 f8, e8]
      iapply (wp_load 𝒱₀ (c : Thread nD τ) none Set.univ (m := arg9) (View.setOn_subset_set _ _)) $$ A9
      iintro A9
      rw [readAt_unit0 arg9.view zero2 inb_S1x128_S1x128_0_0 f9, e9]
      iapply (wp_load 𝒱₀ (c : Thread nD τ) none Set.univ (m := arg10) (View.setOn_subset_set _ _)) $$ A10
      iintro A10
      iapply (wp_store 𝒱₀ (c : Thread nD τ) none Set.univ (m := arg10)
        (r := Rect.unit (s := S1000x128) ![0, 0] S1000x128.size inb_S1000x128_S1000x128_0_0) (Mk := Finset.univ) (((arg10.view.slice _).setOn_subset_set _).trans (View.set_slice_subset _ _))) $$ A10
      iintro A10
      rw [wp_ret]
      imodintro
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [A1]; · iexists _; isplitr; · ipureintro; exact e1
                      iexact A1
      isplitl [A2]; · iexists _; isplitr; · ipureintro; exact e2
                      iexact A2
      isplitl [A3]; · iexists _; isplitr; · ipureintro; exact e3
                      iexact A3
      isplitl [A4]; · iexists _; isplitr; · ipureintro; exact e4
                      iexact A4
      isplitl [A5]; · iexists _; isplitr; · ipureintro; exact e5
                      iexact A5
      isplitl [A6]; · iexists _; isplitr; · ipureintro; exact e6
                      iexact A6
      isplitl [A7]; · iexists _; isplitr; · ipureintro; exact e7
                      iexact A7
      isplitl [A8]; · iexists _; isplitr; · ipureintro; exact e8
                      iexact A8
      isplitl [A9]; · iexists _; isplitr; · ipureintro; exact e9
                      iexact A9
      iexists _; isplitr; swap; · iexact A10
      ipureintro
      rw [hd]
      exact read_write_unit0 arg10.view zero2 inb_S1000x128_S1000x128_0_0 f10 _
    · simp only [dif_neg hl]
      rw [if_neg hl] at hd
      rw [wp_ret]
      imodintro
      isplitl [HS]; · iexact HS
      isplitl [A1]; · iexists _; isplitr; · ipureintro; exact e1
                      iexact A1
      isplitl [A2]; · iexists _; isplitr; · ipureintro; exact e2
                      iexact A2
      isplitl [A3]; · iexists _; isplitr; · ipureintro; exact e3
                      iexact A3
      isplitl [A4]; · iexists _; isplitr; · ipureintro; exact e4
                      iexact A4
      isplitl [A5]; · iexists _; isplitr; · ipureintro; exact e5
                      iexact A5
      isplitl [A6]; · iexists _; isplitr; · ipureintro; exact e6
                      iexact A6
      isplitl [A7]; · iexists _; isplitr; · ipureintro; exact e7
                      iexact A7
      isplitl [A8]; · iexists _; isplitr; · ipureintro; exact e8
                      iexact A8
      isplitl [A9]; · iexists _; isplitr; · ipureintro; exact e9
                      iexact A9
      iexists _; isplitr; · ipureintro; rw [hd]; exact e10
      iexact A10

end

end Cert.Proof.KernelIdeal

end
-- ==== Proof.KI.Run.lean ====
/-
  The launch's run: the accumulators' states from point to point, the pipeline's proof data, the body's obligation, and
  the run of the whole program under the hypothesis that each block's first and last segment ids lie in [0, 1000).
-/
module

public import proofs.«01_k».proof.Proof.KI.Body

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point's first segment id. -/
abbrev fstAt (c : Dev nD) (t : Fin cfg0.N) : BitVec 32 := fstW (F := F) (iblk m c 0 t)
/-- The point's last segment id. -/
abbrev lstAt (c : Dev nD) (t : Fin cfg0.N) : BitVec 32 := lstW (F := F) (iblk m c 0 t)

/-- Each point's first and last segment ids lie in [0, 1000). -/
def Hyp : Prop := ∀ (c : Dev nD) (t : Fin cfg0.N), IsSeg (fstAt m c t) ∧ IsSeg (lstAt m c t)

/-- A point's segment loop over its blocks, from a state. -/
def stepAt (c : Dev nD) (t : Fin cfg0.N) (S : St F) : St F :=
  open Classical in
  if hw : k0_chk1 (fstAt m c t) (lstAt m c t) then
    pointSt (iblk m c 0 t) (iblk m c 1 t) (iblk m c 2 t) (iblk m c 3 t) (iblk m c 4 t) (iblk m c 5 t) (iblk m c 6 t) hw S
  else S

/-- The accumulators after so many points (cleared, before the first). -/
def stAt (c : Dev nD) : ℕ → St F
  | 0 => initSt
  | n + 1 => if h : n < cfg0.N then stepAt m c ⟨n, h⟩ (stAt c n) else stAt c n

/-- The invariant between points: before the first the accumulators at anything, after it at the states. -/
def phi (c : Dev nD) (n : ℕ) : sProp 𝕄 :=
  if n = 0 then Pipeline.ΦA spec0 c else iprop(pts c (stAt m c n) ∗ ∃ r, prngReg c r)

/-- The pipeline's proof data: every operand's buffer keeps its block, the result's holds the result after the last point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outOf (stAt m c (t.val + 1)) (iblk m c 7 t) (iblk m c 8 t)
  Φ t := phi m c t.val
  q _ := fullShare
  owed _ := 0

/-- A window's array at the launch. -/
theorem A_eq (c : Dev nD) (w : Fin cfg0.W) : (dats m 0 c).A w = V m c (Pipeline.arrRef spec0 w) := rfl
/-- A point leaves window 0's block as it was. -/
theorem after0_0 (c : Dev nD) (t : Fin cfg0.N) : (dats m 0 c).after 0 t = iblk m c 0 t := by dsimp only [dats]
/-- A point leaves window 1's block as it was. -/
theorem after0_1 (c : Dev nD) (t : Fin cfg0.N) : (dats m 0 c).after 1 t = iblk m c 1 t := by dsimp only [dats]
/-- A point leaves window 2's block as it was. -/
theorem after0_2 (c : Dev nD) (t : Fin cfg0.N) : (dats m 0 c).after 2 t = iblk m c 2 t := by dsimp only [dats]
/-- A point leaves window 3's block as it was. -/
theorem after0_3 (c : Dev nD) (t : Fin cfg0.N) : (dats m 0 c).after 3 t = iblk m c 3 t := by dsimp only [dats]
/-- A point leaves window 4's block as it was. -/
theorem after0_4 (c : Dev nD) (t : Fin cfg0.N) : (dats m 0 c).after 4 t = iblk m c 4 t := by dsimp only [dats]
/-- A point leaves window 5's block as it was. -/
theorem after0_5 (c : Dev nD) (t : Fin cfg0.N) : (dats m 0 c).after 5 t = iblk m c 5 t := by dsimp only [dats]
/-- A point leaves window 6's block as it was. -/
theorem after0_6 (c : Dev nD) (t : Fin cfg0.N) : (dats m 0 c).after 6 t = iblk m c 6 t := by dsimp only [dats]
/-- A point leaves window 7's block as it was. -/
theorem after0_7 (c : Dev nD) (t : Fin cfg0.N) : (dats m 0 c).after 7 t = iblk m c 7 t := by dsimp only [dats]
/-- A point leaves window 8's block as it was. -/
theorem after0_8 (c : Dev nD) (t : Fin cfg0.N) : (dats m 0 c).after 8 t = iblk m c 8 t := by dsimp only [dats]
/-- What a point leaves in the result's buffer. -/
theorem after0_9 (c : Dev nD) (t : Fin cfg0.N) :
    (dats m 0 c).after 9 t = outOf (stAt m c (t.val + 1)) (iblk m c 7 t) (iblk m c 8 t) := by dsimp only [dats]
/-- A point finds window 0's block as the array has it. -/
theorem before0_0 (c : Dev nD) (t : Fin cfg0.N) (d) : (dats m 0 c).before 0 t d = iblk m c 0 t :=
  before0_0_of m (dats m 0 c) (A_eq m c 0) (after0_0 m c) t d
/-- A point finds window 1's block as the array has it. -/
theorem before0_1 (c : Dev nD) (t : Fin cfg0.N) (d) : (dats m 0 c).before 1 t d = iblk m c 1 t :=
  before0_1_of m (dats m 0 c) (A_eq m c 1) (after0_1 m c) t d
/-- A point finds window 2's block as the array has it. -/
theorem before0_2 (c : Dev nD) (t : Fin cfg0.N) (d) : (dats m 0 c).before 2 t d = iblk m c 2 t :=
  before0_2_of m (dats m 0 c) (A_eq m c 2) (after0_2 m c) t d
/-- A point finds window 3's block as the array has it. -/
theorem before0_3 (c : Dev nD) (t : Fin cfg0.N) (d) : (dats m 0 c).before 3 t d = iblk m c 3 t :=
  before0_3_of m (dats m 0 c) (A_eq m c 3) (after0_3 m c) t d
/-- A point finds window 4's block as the array has it. -/
theorem before0_4 (c : Dev nD) (t : Fin cfg0.N) (d) : (dats m 0 c).before 4 t d = iblk m c 4 t :=
  before0_4_of m (dats m 0 c) (A_eq m c 4) (after0_4 m c) t d
/-- A point finds window 5's block as the array has it. -/
theorem before0_5 (c : Dev nD) (t : Fin cfg0.N) (d) : (dats m 0 c).before 5 t d = iblk m c 5 t :=
  before0_5_of m (dats m 0 c) (A_eq m c 5) (after0_5 m c) t d
/-- A point finds window 6's block as the array has it. -/
theorem before0_6 (c : Dev nD) (t : Fin cfg0.N) (d) : (dats m 0 c).before 6 t d = iblk m c 6 t :=
  before0_6_of m (dats m 0 c) (A_eq m c 6) (after0_6 m c) t d
/-- A point finds window 7's block as the array has it. -/
theorem before0_7 (c : Dev nD) (t : Fin cfg0.N) (d) : (dats m 0 c).before 7 t d = iblk m c 7 t :=
  before0_7_of m (dats m 0 c) (A_eq m c 7) (after0_7 m c) t d
/-- A point finds window 8's block as the array has it. -/
theorem before0_8 (c : Dev nD) (t : Fin cfg0.N) (d) : (dats m 0 c).before 8 t d = iblk m c 8 t :=
  before0_8_of m (dats m 0 c) (A_eq m c 8) (after0_8 m c) t d

/-- The first point's test, by the point's number. -/
theorem cond1_iff : ∀ t : Fin cfg0.N, cond1 (grid0.coords t) ↔ t.val = 0 :=
  (by decide +kernel : ∀ t : Fin grid0.N, cond1 (grid0.coords t) ↔ t.val = 0)

/-- The last point's test, by the point's number. -/
theorem cond2_iff : ∀ t : Fin cfg0.N, k0_cond2 (grid0.coords t) = 1#1 ↔ t.val = 249 :=
  (by decide +kernel : ∀ t : Fin grid0.N, k0_cond2 (grid0.coords t) = 1#1 ↔ t.val = 249)

/-- The result's buffer is written at the last point only. -/
theorem idle_iff : ∀ t : Fin cfg0.N, idle0 9 (grid0.coords t) = false ↔ t.val = 249 :=
  (by decide +kernel : ∀ t : Fin grid0.N, idle0 9 (grid0.coords t) = false ↔ t.val = 249)

/-- The state after a point, from the one before. -/
theorem stAt_succ (h : Hyp m) (c : Dev nD) (t : Fin cfg0.N) :
    stAt m c (t.val + 1) = pointSt (iblk m c 0 t) (iblk m c 1 t) (iblk m c 2 t) (iblk m c 3 t) (iblk m c 4 t) (iblk m c 5 t)
      (iblk m c 6 t) (chk_of _ _ (h c t).1 (h c t).2) (stAt m c t.val) := by
  simp only [stAt, t.isLt, dite_true, Fin.eta, stepAt]
  rw [dif_pos (chk_of _ _ (h c t).1 (h c t).2)]

/-- The invariant after a point. -/
theorem phi_succ (c : Dev nD) (n : ℕ) : phi m c (n + 1) = iprop(pts c (stAt m c (n + 1)) ∗ ∃ r, prngReg c r) := by
  unfold phi; rw [if_neg (Nat.succ_ne_zero n)]

/-- The invariant before a point: some state, and the state named if the point is not the first. -/
theorem phi_open (c : Dev nD) (n : ℕ) :
    phi m c n ⊢ (iprop(∃ S : St F, ⌜n ≠ 0 → S = stAt m c n⌝ ∗ pts c S ∗ ∃ r, prngReg c r) : sProp 𝕄) := by
  unfold phi
  by_cases hn : n = 0
  · rw [if_pos hn]
    unfold Pipeline.ΦA
    rw [scopedRest0_eq]
    iintro ⟨⟨⟨%g0, H0⟩, ⟨%g1, H1⟩, ⟨%g2, H2⟩, ⟨%g3, H3⟩, ⟨%g4, H4⟩, ⟨%g5, H5⟩⟩, Hr⟩
    iexists (⟨g0, g1, g2, g3, g4, g5⟩ : St F)
    isplitr; · ipureintro; intro h; exact absurd hn h
    isplitr [Hr]
    · unfold pts
      isplitl [H0]; · iexact H0
      isplitl [H1]; · iexact H1
      isplitl [H2]; · iexact H2
      isplitl [H3]; · iexact H3
      isplitl [H4]; · iexact H4
      iexact H5
    iexact Hr
  · rw [if_neg hn]
    iintro ⟨H, Hr⟩
    iexists (stAt m c n)
    isplitr; · ipureintro; intro _; rfl
    isplitl [H]; · iexact H
    iexact Hr

/-- The invariant after the last point gives back the accumulators at something. -/
theorem phi_close (c : Dev nD) (n : ℕ) : phi m c n ⊢ (Pipeline.ΦA spec0 c : sProp 𝕄) := by
  unfold phi
  by_cases hn : n = 0
  · rw [if_pos hn]
  · rw [if_neg hn]
    unfold Pipeline.ΦA
    rw [scopedRest0_eq]
    unfold pts
    iintro ⟨⟨H0, H1, H2, H3, H4, H5⟩, Hr⟩
    isplitr [Hr]
    · isplitl [H0]; · iexists _; iexact H0
      isplitl [H1]; · iexists _; iexact H1
      isplitl [H2]; · iexists _; iexact H2
      isplitl [H3]; · iexists _; iexact H3
      isplitl [H4]; · iexists _; iexact H4
      iexists _; iexact H5
    iexact Hr

set_option maxHeartbeats 1000000 in
/-- The body meets its obligation at every point. -/
theorem body_obligation (h : Hyp m) (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8]
  rw [show (dats m 0 c).Φ t.succ = phi m c (t.val + 1) from rfl, show (dats m 0 c).Φ t.castSucc = phi m c t.val from rfl,
    show (dats m 0 c).owesAt () t.succ = (dats m 0 c).owesAt () t.castSucc from rfl, phi_succ]
  have hbody := fun (d : FVec F S1000x128 .f32) (d' : FVec F S1000x128 .f32) (S : St F)
      (hS : t.val ≠ 0 → S = stAt m c t.val) (hd : d' = if k0_cond2 (grid0.coords t) = 1#1 then
        outOf (stAt m c (t.val + 1)) (iblk m c 7 t) (iblk m c 8 t) else d) =>
    body_wp c (grid0.coords t) _ ((hstage0_0 ((cfg0.slots t 0).cast nbuf0_0))) _ ((hstage0_1 ((cfg0.slots t 1).cast nbuf0_1))) _ ((hstage0_2 ((cfg0.slots t 2).cast nbuf0_2))) _ ((hstage0_3 ((cfg0.slots t 3).cast nbuf0_3))) _ ((hstage0_4 ((cfg0.slots t 4).cast nbuf0_4))) _ ((hstage0_5 ((cfg0.slots t 5).cast nbuf0_5))) _ ((hstage0_6 ((cfg0.slots t 6).cast nbuf0_6))) _ ((hstage0_7 ((cfg0.slots t 7).cast nbuf0_7))) _ ((hstage0_8 ((cfg0.slots t 8).cast nbuf0_8))) _ ((hstage0_9 ((cfg0.slots t 9).cast nbuf0_9)))
      (iblk m c 0 t) (iblk m c 1 t) (iblk m c 2 t) (iblk m c 3 t) (iblk m c 4 t) (iblk m c 5 t) (iblk m c 6 t) (iblk m c 7 t)
      (iblk m c 8 t) d (chk_of _ _ (h c t).1 (h c t).2) (seg_loop _ _ (h c t).1 (h c t).2).2.2.2.2 S (stAt m c (t.val + 1))
      (by
        rw [stAt_succ m h c t]
        congr 1
        by_cases h0 : t.val = 0
        · rw [if_pos ((cond1_iff t).mpr h0), h0]; rfl
        · rw [if_neg (fun hc => h0 ((cond1_iff t).mp hc)), hS h0]) d' hd
  by_cases hl : t.val = 249
  · have iW : idle0 9 (grid0.coords t) = false := (idle_iff t).mpr hl
    rewrite [iW]
    have hc2 := (cond2_iff t).mpr hl
    rw [after0_0, after0_1, after0_2, after0_3, after0_4, after0_5, after0_6, after0_7, after0_8, after0_9]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave ⟨%S, %hS, HS, Hr⟩ := phi_open m c t.val $$ HΦ
    iapply (wp_wand_r frame (wpE (defs₀ (F := F)) 𝒱₀ (c : Thread nD τ) none) Set.univ)
    isplitl [HS H0 H1 H2 H3 H4 H5 H6 H7 H8 H9]
    · iapply (hbody ((dats m 0 c).before 9 t d9) _ S hS (by rw [if_pos hc2]))
      isplitl [HS]; · iexact HS
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iintro %u ⟨HS, H0, H1, H2, H3, H4, H5, H6, H7, H8, H9⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · have iW : idle0 9 (grid0.coords t) = true := by
      cases hi : idle0 9 (grid0.coords t) with
      | true => rfl
      | false => exact absurd ((idle_iff t).mp hi) hl
    have fW : (win0 9).flush t = false := by
      cases hi : (win0 9).flush t with
      | true => exact absurd ((flush0_9 t).mp hi) (fun h' => hl (by have := t.isLt; have hN : cfg0.N = 250 := rfl; omega))
      | false => rfl
    rewrite [iW, fW]
    have hc2 := fun h' => hl ((cond2_iff t).mp h')
    rw [after0_0, after0_1, after0_2, after0_3, after0_4, after0_5, after0_6, after0_7, after0_8]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave ⟨%S, %hS, HS, Hr⟩ := phi_open m c t.val $$ HΦ
    iapply (wp_wand_r frame (wpE (defs₀ (F := F)) 𝒱₀ (c : Thread nD τ) none) Set.univ)
    isplitl [HS H0 H1 H2 H3 H4 H5 H6 H7 H8 H9]
    · iapply (hbody ((dats m 0 c).before 9 t d9) _ S hS (by rw [if_neg hc2]))
      isplitl [HS]; · iexact HS
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iintro %u ⟨HS, H0, H1, H2, H3, H4, H5, H6, H7, H8, H9⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists d9; iexact H9

set_option backward.isDefEq.respectTransparency.types false in
/-- From any memory with zero counters whose segment ids are in range, every weakly fair execution of the program
    terminates, each array of the pipeline at what the proof data compute and every counter at zero. -/
theorem run_main (h : Hyp m) : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m h c).loose) (hshare := fun c => (dats m 0 c).share_full fun _ => rfl)
    (howed := fun _ _ => rfl) (V := V m) (hmain := hmain m 𝒱₀) (hA := fun _ _ => rfl)
    (hin := fun c => by
      show Pipeline.ΦA spec0 c ⊢ phi m c 0
      unfold phi; rw [if_pos rfl])
    (hout := fun c => by
      show phi m c cfg0.N ⊢ Pipeline.ΦA spec0 c
      exact phi_close m c _)

end Cert.Proof.KernelIdeal

end
-- ==== Proof.KI.Host.lean ====
/-
  The blocks a grid point reads, by the program's arguments: the host's reshapes read back, and each window's block at a point
  as the rows of the argument it covers.
-/
module

public import proofs.«01_k».proof.Proof.Gen.KernelIdeal.Frame
public import Idealize.ShloMosaic.Lib.Pipeline.Value
public import Idealize.ShloMosaic.Lib.ValueLayoutCasts

@[expose] public section

noncomputable section

namespace Cert.Proof.KernelIdeal

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The program's arguments at a core: the input, the segment ids, the two layers' weights and biases, and the last layer's. -/
def A0 (c : Dev nD) : FVec F S100000x128 .f32 := m ((c : Thread nD τ).loc main_arg0)
/-- Argument 2. -/
def A2 (c : Dev nD) : IVec S100000 32 := m ((c : Thread nD τ).loc main_arg2)
/-- Argument 3. -/
def A3 (c : Dev nD) : FVec F S128x128 .f32 := m ((c : Thread nD τ).loc main_arg3)
/-- Argument 4. -/
def A4 (c : Dev nD) : FVec F S128 .f32 := m ((c : Thread nD τ).loc main_arg4)
/-- Argument 5. -/
def A5 (c : Dev nD) : FVec F S128x1 .f32 := m ((c : Thread nD τ).loc main_arg5)
/-- Argument 6. -/
def A6 (c : Dev nD) : FVec F S1 .f32 := m ((c : Thread nD τ).loc main_arg6)
/-- Argument 7. -/
def A7 (c : Dev nD) : FVec F S512x128 .f32 := m ((c : Thread nD τ).loc main_arg7)
/-- Argument 8. -/
def A8 (c : Dev nD) : FVec F S128 .f32 := m ((c : Thread nD τ).loc main_arg8)

/-- The first reshape: the segment ids as 250 blocks of 400. -/
theorem V_v0 (c : Dev nD) : V m c main_v0 = shapeCast S250x1x400 (A2 m c) (by decide) := by
  show StableHlo.after hostOps0 _ (Proc.devRef .tc main_v0) = _
  after_results
  rfl
/-- The second reshape: the segment ids as one column. -/
theorem V_v1 (c : Dev nD) : V m c main_v1 = shapeCast S100000x1 (A2 m c) (by decide) := by
  show StableHlo.after hostOps0 _ (Proc.devRef .tc main_v1) = _
  after_results
  rfl
/-- The third reshape: the first bias as one row. -/
theorem V_v2 (c : Dev nD) : V m c main_v2 = shapeCast S1x128 (A4 m c) (by decide) := by
  show StableHlo.after hostOps0 _ (Proc.devRef .tc main_v2) = _
  after_results
  rfl
/-- The fourth reshape: the second layer's weights as one row. -/
theorem V_v3 (c : Dev nD) : V m c main_v3 = shapeCast S1x128 (A5 m c) (by decide) := by
  show StableHlo.after hostOps0 _ (Proc.devRef .tc main_v3) = _
  after_results
  rfl
/-- The fifth reshape: the second layer's bias as a matrix of one element. -/
theorem V_v4 (c : Dev nD) : V m c main_v4 = shapeCast S1x1 (A6 m c) (by decide) := by
  show StableHlo.after hostOps0 _ (Proc.devRef .tc main_v4) = _
  after_results
  rfl
/-- The sixth reshape: the last bias as one row. -/
theorem V_v5 (c : Dev nD) : V m c main_v5 = shapeCast S1x128 (A8 m c) (by decide) := by
  show StableHlo.after hostOps0 _ (Proc.devRef .tc main_v5) = _
  after_results
  rfl

/-- The row of the input a point's block holds at one of its rows. -/
def row (t : Fin cfg0.N) (j : Fin 400) : Fin 100000 :=
  ⟨400 * t.val + j.val, by have h : t.val < 250 := t.isLt; have := j.isLt; omega⟩

/-- The blocks that move with the grid point lie at its number. -/
theorem index0 : ∀ t : Fin cfg0.N, win0_0.index t = ![t.val, 0, 0] :=
  (by decide +kernel : ∀ t : Fin grid0.N, win0_0.index t = ![t.val, 0, 0])
/-- Window 1 moves one block a point. -/
theorem index1 : ∀ t : Fin cfg0.N, win0_1.index t = ![t.val, 0] :=
  (by decide +kernel : ∀ t : Fin grid0.N, win0_1.index t = ![t.val, 0])
/-- Window 2 moves one block a point. -/
theorem index2 : ∀ t : Fin cfg0.N, win0_2.index t = ![t.val, 0] :=
  (by decide +kernel : ∀ t : Fin grid0.N, win0_2.index t = ![t.val, 0])
/-- The blocks that stay lie at zero. -/
theorem index3 : ∀ t : Fin cfg0.N, win0_3.index t = ![0, 0] :=
  (by decide +kernel : ∀ t : Fin grid0.N, win0_3.index t = ![0, 0])
/-- Window 4 stays at its only block. -/
theorem index4 : ∀ t : Fin cfg0.N, win0_4.index t = ![0, 0] :=
  (by decide +kernel : ∀ t : Fin grid0.N, win0_4.index t = ![0, 0])
/-- Window 5 stays at its only block. -/
theorem index5 : ∀ t : Fin cfg0.N, win0_5.index t = ![0, 0] :=
  (by decide +kernel : ∀ t : Fin grid0.N, win0_5.index t = ![0, 0])
/-- Window 6 stays at its only block. -/
theorem index6 : ∀ t : Fin cfg0.N, win0_6.index t = ![0, 0] :=
  (by decide +kernel : ∀ t : Fin grid0.N, win0_6.index t = ![0, 0])
/-- Window 7 stays at its only block. -/
theorem index7 : ∀ t : Fin cfg0.N, win0_7.index t = ![0, 0] :=
  (by decide +kernel : ∀ t : Fin grid0.N, win0_7.index t = ![0, 0])
/-- Window 8 stays at its only block. -/
theorem index8 : ∀ t : Fin cfg0.N, win0_8.index t = ![0, 0] :=
  (by decide +kernel : ∀ t : Fin grid0.N, win0_8.index t = ![0, 0])
/-- Window 9 stays at its only block. -/
theorem index9 : ∀ t : Fin cfg0.N, win0_9.index t = ![0, 0] :=
  (by decide +kernel : ∀ t : Fin grid0.N, win0_9.index t = ![0, 0])
/-- The segment ids of a point's block, in scalar memory. -/
theorem iblk0_eq (c : Dev nD) (t : Fin cfg0.N) (j : Fin 400) :
    iblk m c 0 t (ix3 0 0 j) = A2 m c (ix1 (row t j)) := by
  unfold iblk
  rw [View.read_apply, cast_eq]
  show V m c main_v0 ((win0_0.rect t).emb (ix3 0 0 j)) = _
  rw [V_v0]
  refine shapeCast_apply _ _ _ _ ?_
  rw [Shape.rowMajor_val_three, Shape.rowMajor_val_one, Pipeline.Window.rect_emb_val win0_0, Pipeline.Window.rect_emb_val win0_0,
    Pipeline.Window.rect_emb_val win0_0, index0]
  show 400 * t.val + j.val = ((t.val * 1 + 0) * 1 + (0 * 1 + 0)) * 400 + (0 * 400 + j.val)
  omega
/-- The input rows of a point's block. -/
theorem iblk1_eq (c : Dev nD) (t : Fin cfg0.N) (j : Fin 400) (k : Fin 128) :
    iblk m c 1 t (ix2 j k) = A0 m c (ix2 (row t j) k) := by
  unfold iblk
  rw [View.read_apply, cast_eq]
  show V m c main_arg0 ((win0_1.rect t).emb (ix2 j k)) = _
  rw [V_main_arg0]
  refine congrArg (A0 m c) ?_
  funext a
  apply Fin.ext
  rw [Pipeline.Window.rect_emb_val win0_1, index1]
  match a with
  | ⟨0, _⟩ => show t.val * 400 + j.val = 400 * t.val + j.val; omega
  | ⟨1, _⟩ => show 0 * 128 + k.val = k.val; omega
/-- The segment ids of a point's block, as a column. -/
theorem iblk2_eq (c : Dev nD) (t : Fin cfg0.N) (j : Fin 400) :
    iblk m c 2 t (ix2 j 0) = A2 m c (ix1 (row t j)) := by
  unfold iblk
  rw [View.read_apply, cast_eq]
  show V m c main_v1 ((win0_2.rect t).emb (ix2 j 0)) = _
  rw [V_v1]
  refine shapeCast_apply _ _ _ _ ?_
  rw [Shape.rowMajor_val_two, Shape.rowMajor_val_one, Pipeline.Window.rect_emb_val win0_2, Pipeline.Window.rect_emb_val win0_2, index2]
  show 400 * t.val + j.val = (t.val * 400 + j.val) * 1 + (0 * 1 + 0)
  omega
/-- The first layer's weights, the same at every point. -/
theorem iblk3_eq (c : Dev nD) (t : Fin cfg0.N) (j k : Fin 128) :
    iblk m c 3 t (ix2 j k) = A3 m c (ix2 j k) := by
  unfold iblk
  rw [View.read_apply, cast_eq]
  show V m c main_arg3 ((win0_3.rect t).emb (ix2 j k)) = _
  rw [V_main_arg3]
  refine congrArg (A3 m c) ?_
  funext a
  apply Fin.ext
  rw [Pipeline.Window.rect_emb_val win0_3, index3]
  match a with
  | ⟨0, _⟩ => show 0 * 128 + j.val = j.val; omega
  | ⟨1, _⟩ => show 0 * 128 + k.val = k.val; omega
/-- The first bias, the same at every point. -/
theorem iblk4_eq (c : Dev nD) (t : Fin cfg0.N) (k : Fin 128) :
    iblk m c 4 t (ix2 0 k) = A4 m c (ix1 k) := by
  unfold iblk
  rw [View.read_apply, cast_eq]
  show V m c main_v2 ((win0_4.rect t).emb (ix2 0 k)) = _
  rw [V_v2]
  refine shapeCast_apply _ _ _ _ ?_
  rw [Shape.rowMajor_val_two, Shape.rowMajor_val_one, Pipeline.Window.rect_emb_val win0_4, Pipeline.Window.rect_emb_val win0_4, index4]
  show k.val = (0 * 1 + 0) * 128 + (0 * 128 + k.val)
  omega
/-- The last bias, the same at every point. -/
theorem iblk8_eq (c : Dev nD) (t : Fin cfg0.N) (k : Fin 128) :
    iblk m c 8 t (ix2 0 k) = A8 m c (ix1 k) := by
  unfold iblk
  rw [View.read_apply, cast_eq]
  show V m c main_v5 ((win0_8.rect t).emb (ix2 0 k)) = _
  rw [V_v5]
  refine shapeCast_apply _ _ _ _ ?_
  rw [Shape.rowMajor_val_two, Shape.rowMajor_val_one, Pipeline.Window.rect_emb_val win0_8, Pipeline.Window.rect_emb_val win0_8, index8]
  show k.val = (0 * 1 + 0) * 128 + (0 * 128 + k.val)
  omega
/-- The second layer's weights, the same at every point. -/
theorem iblk5_eq (c : Dev nD) (t : Fin cfg0.N) (k : Fin 128) :
    iblk m c 5 t (ix2 0 k) = A5 m c (ix2 k 0) := by
  unfold iblk
  rw [View.read_apply, cast_eq]
  show V m c main_v3 ((win0_5.rect t).emb (ix2 0 k)) = _
  rw [V_v3]
  refine shapeCast_apply _ _ _ _ ?_
  rw [Shape.rowMajor_val_two, Shape.rowMajor_val_two, Pipeline.Window.rect_emb_val win0_5, Pipeline.Window.rect_emb_val win0_5, index5]
  show k.val * 1 + 0 = (0 * 1 + 0) * 128 + (0 * 128 + k.val)
  omega
/-- The second layer's bias, the same at every point. -/
theorem iblk6_eq (c : Dev nD) (t : Fin cfg0.N) :
    iblk m c 6 t (ix2 0 0) = A6 m c (ix1 0) := by
  unfold iblk
  rw [View.read_apply, cast_eq]
  show V m c main_v4 ((win0_6.rect t).emb (ix2 0 0)) = _
  rw [V_v4]
  refine shapeCast_apply _ _ _ _ ?_
  rw [Shape.rowMajor_val_two, Shape.rowMajor_val_one, Pipeline.Window.rect_emb_val win0_6, Pipeline.Window.rect_emb_val win0_6, index6]
  rfl
/-- The last layer's weights, the same at every point. -/
theorem iblk7_eq (c : Dev nD) (t : Fin cfg0.N) (j : Fin 512) (k : Fin 128) :
    iblk m c 7 t (ix2 j k) = A7 m c (ix2 j k) := by
  unfold iblk
  rw [View.read_apply, cast_eq]
  show V m c main_arg7 ((win0_7.rect t).emb (ix2 j k)) = _
  rw [V_main_arg7]
  refine congrArg (A7 m c) ?_
  funext a
  apply Fin.ext
  rw [Pipeline.Window.rect_emb_val win0_7, index7]
  match a with
  | ⟨0, _⟩ => show 0 * 512 + j.val = j.val; omega
  | ⟨1, _⟩ => show 0 * 128 + k.val = k.val; omega

end Cert.Proof.KernelIdeal

end
-- ==== Proof.KI.Frame.lean ====
/-
  The frame: with every segment id in [0, 1000) the program runs, leaves its arguments as they were, and ends with every counter at
  zero.
-/
module

public import proofs.«01_k».proof.Proof.KI.Run
public import proofs.«01_k».proof.Proof.KI.Host

@[expose] public section

noncomputable section

namespace Cert.Proof.KernelIdeal

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ) (ρ : Dev nD → PrngReg)

/-- The first segment id is the block's element at zero. -/
theorem fstW_eq (b : Vec F S1x1x400 .i32) : fstW b = b (ix3 0 0 0) := by
  refine congrArg b (funext fun a => Fin.ext ?_)
  rw [Rect.emb_apply]
  match a with
  | ⟨0, _⟩ => rfl
  | ⟨1, _⟩ => rfl
  | ⟨2, _⟩ => rfl

/-- The last segment id is the block's element at 399. -/
theorem lstW_eq (b : Vec F S1x1x400 .i32) : lstW b = b (ix3 0 0 399) := by
  refine congrArg b (funext fun a => Fin.ext ?_)
  rw [Rect.emb_apply]
  match a with
  | ⟨0, _⟩ => rfl
  | ⟨1, _⟩ => rfl
  | ⟨2, _⟩ => rfl

/-- The point's first segment id is the argument's at the block's first row. -/
theorem fstAt_eq (c : Dev nD) (t : Fin cfg0.N) : fstAt m c t = A2 m c (ix1 (row t 0)) :=
  (fstW_eq _).trans (iblk0_eq m c t 0)
/-- The point's last segment id is the argument's at the block's last row. -/
theorem lstAt_eq (c : Dev nD) (t : Fin cfg0.N) : lstAt m c t = A2 m c (ix1 (row t 399)) :=
  (lstW_eq _).trans (iblk0_eq m c t 399)

/-- With every segment id in range, so is each block's first and last. -/
theorem hyp_of (h : ∀ c n, IsSeg (A2 m c n)) : Hyp m := fun c t => by
  rw [fstAt_eq, lstAt_eq]
  exact ⟨h c _, h c _⟩

/-- With every segment id in range the program runs, keeps its arguments and ends with every counter at zero. -/
theorem frame (h : ∀ c n, IsSeg (A2 m c n)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_with_sems (frame_of m ρ (dats m) fun _ _ => rfl) (run_main m ρ (hyp_of m h))

end Cert.Proof.KernelIdeal

end
-- ==== Proof.Frames.lean ====
/-
  The frames of the three programs, and that the idealized kernel's operations are the kernel's.
-/
module

public import proofs.«01_k».proof.Defs
public import proofs.«01_k».proof.Proof.Gen.Pre_segments_in_range
public import proofs.«01_k».proof.Proof.Gen.Pre_sorted_finite
public import proofs.«01_k».proof.Proof.Gen.ReferenceIdeal.Run
public import proofs.«01_k».proof.Proof.Pre
public import proofs.«01_k».proof.Proof.KI.Frame
public import proofs.«01_k».proof.Proof.KN.Frame

@[expose] public section

noncomputable section

namespace Cert.Proof

open Idealize.ShloMosaic Idealize.SL.Sem

/-- The kernel's frame: with every segment id in range it runs, keeps its arguments and ends quiescent. -/
theorem quiescent_kernel : Cert.quiescent_Kernel := fun m g hm =>
  Kernel.frame m g fun c n => inRange_of _ _ _ _ _ _ _ _ _ (hm c) n

/-- The idealized kernel's frame. -/
theorem quiescent_kernelIdeal : Cert.quiescent_KernelIdeal := fun m g hm =>
  KernelIdeal.frame m g fun c n => inRange_of _ _ _ _ _ _ _ _ _ (hm c) n

/-- The idealized kernel's frame under the precondition the value claim has, which says more. -/
theorem quiescent_kernelIdeal_sorted : Cert.quiescent_KernelIdeal_pre_sorted_finite := fun m g hm =>
  KernelIdeal.frame m g fun c n => (sortedFinite_of _ _ _ _ _ _ _ _ _ (hm c)).range n

/-- The reference's frame, from any memory. -/
theorem quiescent_referenceIdeal : Cert.quiescent_ReferenceIdeal := fun m g _ =>
  (θ_run _ _ _).mono (fun r h => ⟨fun c => (h c).2, Idealize.ShloMosaic.sem_eq_zero_of_no_sems (by decide) r.2⟩) (Cert.ReferenceIdeal.Value.run m g)

/-- The reference's frame under the value claim's precondition. -/
theorem quiescent_referenceIdeal_sorted : Cert.quiescent_ReferenceIdeal_pre_sorted_finite := fun m g _ =>
  quiescent_referenceIdeal m g trivial

end Cert.Proof

end
-- ==== Proof.KI.Row.lean ====
/-
  What the segment loop's one-row reads and writes of the six accumulators do, element by element.
-/
module

public import proofs.«01_k».proof.Proof.KI.Body
public import Idealize.ShloMosaic.Lib.ValueIdx
public import Idealize.ShloMosaic.Lib.Pipeline.Value

@[expose] public section

noncomputable section

namespace Cert.Proof.KernelIdeal

open Cert.KernelIdeal Cert.KernelIdeal.Gen
open Idealize.ShloMosaic Idealize.ShloMosaic.TcCoe Idealize.ShloMosaic.ValueIdx

variable {F : FTy → Type} [FloatOps F]

/-- A store through a rectangle of a view leaves the payload inside it. -/
theorem read_write_in {κ : Kind} {sp : Space} {s : Shape} {e : EltTy} (v : View sig κ sp s e) (R : Rect s)
    (f : v.ty.Contents (Elt F)) (w : R.shape.Idx → Elt F e) (x : R.shape.Idx) :
    v.read (Elt F) ((v.slice R).write (Elt F) f w Finset.univ) (R.emb x) = w x :=
  congrFun (View.read_write_univ (v := v.slice R) f w) x

/-- A store through a rectangle of a view leaves what lies outside it. -/
theorem read_write_out {κ : Kind} {sp : Space} {s : Shape} {e : EltTy} (v : View sig κ sp s e) (R : Rect s)
    (f : v.ty.Contents (Elt F)) (w : R.shape.Idx → Elt F e) (i : s.Idx) (hi : ∀ y, R.emb y ≠ i) :
    v.read (Elt F) ((v.slice R).write (Elt F) f w Finset.univ) i = v.read (Elt F) f i := by
  rw [View.read_apply, View.read_apply]
  refine congrArg _ (View.write_of_not_mem (v := v.slice R) f w Finset.univ fun hx => ?_)
  obtain ⟨y, _, hy⟩ := Finset.mem_map.1 hx
  exact hi y (v.emb.injective hy)

/-- Row `n` of a wide accumulator as a unit-stride rectangle. -/
theorem emb_wide (off : Fin 2 → ℕ) (n : ℕ) (hn : n < 1024) (hoff : off = ![n, 0]) (inb : ∀ a, off a + S1x128.size a ≤ S1024x128.size a) (k : Fin 128) :
    (Rect.unit (s := S1024x128) off S1x128.size inb).emb (ix2 (0 : Fin 1) k) = ix2 (⟨n, hn⟩ : Fin 1024) k := by
  subst hoff
  funext a
  apply Fin.ext
  rw [Rect.emb_apply]
  match a with
  | ⟨0, _⟩ => show n + 1 * 0 = n; omega
  | ⟨1, _⟩ => show 0 + 1 * k.val = k.val; omega

/-- Row `n` of a one-column accumulator as a unit-stride rectangle. -/
theorem emb_col (off : Fin 2 → ℕ) (n : ℕ) (hn : n < 1024) (hoff : off = ![n, 0]) (inb : ∀ a, off a + S1x1.size a ≤ S1024x1.size a) :
    (Rect.unit (s := S1024x1) off S1x1.size inb).emb (ix2 (0 : Fin 1) (0 : Fin 1)) = ix2 (⟨n, hn⟩ : Fin 1024) (0 : Fin 1) := by
  subst hoff
  funext a
  apply Fin.ext
  rw [Rect.emb_apply]
  match a with
  | ⟨0, _⟩ => show n + 1 * 0 = n; omega
  | ⟨1, _⟩ => rfl

/-- Reading one row of accumulator 0. -/
theorem rd_row0 (f : FVec F S1024x128 .f32) (off : Fin 2 → ℕ) (n : ℕ) (hn : n < 1024) (hoff : off = ![n, 0])
    (inb : ∀ a, off a + S1x128.size a ≤ S1024x128.size a) (k : Fin 128) :
    (Memref.whole cc0_scratch0).view.readAt (Elt F) (Rect.unit (s := S1024x128) off S1x128.size inb).toLoadRect f (ix2 (0 : Fin 1) k)
      = f (ix2 (⟨n, hn⟩ : Fin 1024) k) := by
  rw [View.readAt_apply, View.read_apply, cast_eq]
  exact congrArg f (emb_wide off n hn hoff inb k)

/-- Writing one row of accumulator 0: that row is the payload, every other is as it was. -/
theorem wr_row0 (f : FVec F S1024x128 .f32) (w : FVec F S1x128 .f32) (off : Fin 2 → ℕ) (n : ℕ) (hn : n < 1024) (hoff : off = ![n, 0])
    (inb : ∀ a, off a + S1x128.size a ≤ S1024x128.size a) (r : Fin 1024) (k : Fin 128) :
    (((Memref.whole cc0_scratch0).access (Rect.unit (s := S1024x128) off S1x128.size inb)).write (Elt F) f w Finset.univ : FVec F S1024x128 .f32) (ix2 r k)
      = if r.val = n then w (ix2 (0 : Fin 1) k) else f (ix2 r k) := by
  by_cases h : r.val = n
  · rw [if_pos h]
    have e : (ix2 r k : S1024x128.Idx) = (Rect.unit (s := S1024x128) off S1x128.size inb).emb (ix2 (0 : Fin 1) k) := by
      rw [emb_wide off n hn hoff inb k]; subst h; rfl
    rw [e]
    exact read_write_in (Memref.whole cc0_scratch0).view (Rect.unit (s := S1024x128) off S1x128.size inb) f w (ix2 (0 : Fin 1) k)
  · rw [if_neg h]
    refine read_write_out (Memref.whole cc0_scratch0).view (Rect.unit (s := S1024x128) off S1x128.size inb) f w (ix2 r k) fun y hy => h ?_
    have h1 : ((Rect.unit (s := S1024x128) off S1x128.size inb).emb y 0).val = r.val := by rw [hy]
    rw [Rect.emb_apply] at h1
    subst hoff
    have h2 : n + 1 * (y 0).val = r.val := h1
    have h3 : (y 0).val < 1 := (y 0).isLt
    omega

/-- Reading one row of accumulator 1. -/
theorem rd_row1 (f : FVec F S1024x128 .f32) (off : Fin 2 → ℕ) (n : ℕ) (hn : n < 1024) (hoff : off = ![n, 0])
    (inb : ∀ a, off a + S1x128.size a ≤ S1024x128.size a) (k : Fin 128) :
    (Memref.whole cc0_scratch1).view.readAt (Elt F) (Rect.unit (s := S1024x128) off S1x128.size inb).toLoadRect f (ix2 (0 : Fin 1) k)
      = f (ix2 (⟨n, hn⟩ : Fin 1024) k) := by
  rw [View.readAt_apply, View.read_apply, cast_eq]
  exact congrArg f (emb_wide off n hn hoff inb k)

/-- Writing one row of accumulator 1: that row is the payload, every other is as it was. -/
theorem wr_row1 (f : FVec F S1024x128 .f32) (w : FVec F S1x128 .f32) (off : Fin 2 → ℕ) (n : ℕ) (hn : n < 1024) (hoff : off = ![n, 0])
    (inb : ∀ a, off a + S1x128.size a ≤ S1024x128.size a) (r : Fin 1024) (k : Fin 128) :
    (((Memref.whole cc0_scratch1).access (Rect.unit (s := S1024x128) off S1x128.size inb)).write (Elt F) f w Finset.univ : FVec F S1024x128 .f32) (ix2 r k)
      = if r.val = n then w (ix2 (0 : Fin 1) k) else f (ix2 r k) := by
  by_cases h : r.val = n
  · rw [if_pos h]
    have e : (ix2 r k : S1024x128.Idx) = (Rect.unit (s := S1024x128) off S1x128.size inb).emb (ix2 (0 : Fin 1) k) := by
      rw [emb_wide off n hn hoff inb k]; subst h; rfl
    rw [e]
    exact read_write_in (Memref.whole cc0_scratch1).view (Rect.unit (s := S1024x128) off S1x128.size inb) f w (ix2 (0 : Fin 1) k)
  · rw [if_neg h]
    refine read_write_out (Memref.whole cc0_scratch1).view (Rect.unit (s := S1024x128) off S1x128.size inb) f w (ix2 r k) fun y hy => h ?_
    have h1 : ((Rect.unit (s := S1024x128) off S1x128.size inb).emb y 0).val = r.val := by rw [hy]
    rw [Rect.emb_apply] at h1
    subst hoff
    have h2 : n + 1 * (y 0).val = r.val := h1
    have h3 : (y 0).val < 1 := (y 0).isLt
    omega

/-- Reading one row of accumulator 2. -/
theorem rd_row2 (f : FVec F S1024x128 .f32) (off : Fin 2 → ℕ) (n : ℕ) (hn : n < 1024) (hoff : off = ![n, 0])
    (inb : ∀ a, off a + S1x128.size a ≤ S1024x128.size a) (k : Fin 128) :
    (Memref.whole cc0_scratch2).view.readAt (Elt F) (Rect.unit (s := S1024x128) off S1x128.size inb).toLoadRect f (ix2 (0 : Fin 1) k)
      = f (ix2 (⟨n, hn⟩ : Fin 1024) k) := by
  rw [View.readAt_apply, View.read_apply, cast_eq]
  exact congrArg f (emb_wide off n hn hoff inb k)

/-- Writing one row of accumulator 2: that row is the payload, every other is as it was. -/
theorem wr_row2 (f : FVec F S1024x128 .f32) (w : FVec F S1x128 .f32) (off : Fin 2 → ℕ) (n : ℕ) (hn : n < 1024) (hoff : off = ![n, 0])
    (inb : ∀ a, off a + S1x128.size a ≤ S1024x128.size a) (r : Fin 1024) (k : Fin 128) :
    (((Memref.whole cc0_scratch2).access (Rect.unit (s := S1024x128) off S1x128.size inb)).write (Elt F) f w Finset.univ : FVec F S1024x128 .f32) (ix2 r k)
      = if r.val = n then w (ix2 (0 : Fin 1) k) else f (ix2 r k) := by
  by_cases h : r.val = n
  · rw [if_pos h]
    have e : (ix2 r k : S1024x128.Idx) = (Rect.unit (s := S1024x128) off S1x128.size inb).emb (ix2 (0 : Fin 1) k) := by
      rw [emb_wide off n hn hoff inb k]; subst h; rfl
    rw [e]
    exact read_write_in (Memref.whole cc0_scratch2).view (Rect.unit (s := S1024x128) off S1x128.size inb) f w (ix2 (0 : Fin 1) k)
  · rw [if_neg h]
    refine read_write_out (Memref.whole cc0_scratch2).view (Rect.unit (s := S1024x128) off S1x128.size inb) f w (ix2 r k) fun y hy => h ?_
    have h1 : ((Rect.unit (s := S1024x128) off S1x128.size inb).emb y 0).val = r.val := by rw [hy]
    rw [Rect.emb_apply] at h1
    subst hoff
    have h2 : n + 1 * (y 0).val = r.val := h1
    have h3 : (y 0).val < 1 := (y 0).isLt
    omega

/-- Reading one row of accumulator 3. -/
theorem rd_row3 (f : FVec F S1024x1 .f32) (off : Fin 2 → ℕ) (n : ℕ) (hn : n < 1024) (hoff : off = ![n, 0])
    (inb : ∀ a, off a + S1x1.size a ≤ S1024x1.size a) :
    (Memref.whole cc0_scratch3).view.readAt (Elt F) (Rect.unit (s := S1024x1) off S1x1.size inb).toLoadRect f (ix2 (0 : Fin 1) (0 : Fin 1))
      = f (ix2 (⟨n, hn⟩ : Fin 1024) (0 : Fin 1)) := by
  rw [View.readAt_apply, View.read_apply, cast_eq]
  exact congrArg f (emb_col off n hn hoff inb)

/-- Writing one row of accumulator 3: that row is the payload, every other is as it was. -/
theorem wr_row3 (f : FVec F S1024x1 .f32) (w : FVec F S1x1 .f32) (off : Fin 2 → ℕ) (n : ℕ) (hn : n < 1024) (hoff : off = ![n, 0])
    (inb : ∀ a, off a + S1x1.size a ≤ S1024x1.size a) (r : Fin 1024) :
    (((Memref.whole cc0_scratch3).access (Rect.unit (s := S1024x1) off S1x1.size inb)).write (Elt F) f w Finset.univ : FVec F S1024x1 .f32) (ix2 r (0 : Fin 1))
      = if r.val = n then w (ix2 (0 : Fin 1) (0 : Fin 1)) else f (ix2 r (0 : Fin 1)) := by
  by_cases h : r.val = n
  · rw [if_pos h]
    have e : (ix2 r (0 : Fin 1) : S1024x1.Idx) = (Rect.unit (s := S1024x1) off S1x1.size inb).emb (ix2 (0 : Fin 1) (0 : Fin 1)) := by
      rw [emb_col off n hn hoff inb]; subst h; rfl
    rw [e]
    exact read_write_in (Memref.whole cc0_scratch3).view (Rect.unit (s := S1024x1) off S1x1.size inb) f w (ix2 (0 : Fin 1) (0 : Fin 1))
  · rw [if_neg h]
    refine read_write_out (Memref.whole cc0_scratch3).view (Rect.unit (s := S1024x1) off S1x1.size inb) f w (ix2 r (0 : Fin 1)) fun y hy => h ?_
    have h1 : ((Rect.unit (s := S1024x1) off S1x1.size inb).emb y 0).val = r.val := by rw [hy]
    rw [Rect.emb_apply] at h1
    subst hoff
    have h2 : n + 1 * (y 0).val = r.val := h1
    have h3 : (y 0).val < 1 := (y 0).isLt
    omega

/-- Reading one row of accumulator 4. -/
theorem rd_row4 (f : FVec F S1024x1 .f32) (off : Fin 2 → ℕ) (n : ℕ) (hn : n < 1024) (hoff : off = ![n, 0])
    (inb : ∀ a, off a + S1x1.size a ≤ S1024x1.size a) :
    (Memref.whole cc0_scratch4).view.readAt (Elt F) (Rect.unit (s := S1024x1) off S1x1.size inb).toLoadRect f (ix2 (0 : Fin 1) (0 : Fin 1))
      = f (ix2 (⟨n, hn⟩ : Fin 1024) (0 : Fin 1)) := by
  rw [View.readAt_apply, View.read_apply, cast_eq]
  exact congrArg f (emb_col off n hn hoff inb)

/-- Writing one row of accumulator 4: that row is the payload, every other is as it was. -/
theorem wr_row4 (f : FVec F S1024x1 .f32) (w : FVec F S1x1 .f32) (off : Fin 2 → ℕ) (n : ℕ) (hn : n < 1024) (hoff : off = ![n, 0])
    (inb : ∀ a, off a + S1x1.size a ≤ S1024x1.size a) (r : Fin 1024) :
    (((Memref.whole cc0_scratch4).access (Rect.unit (s := S1024x1) off S1x1.size inb)).write (Elt F) f w Finset.univ : FVec F S1024x1 .f32) (ix2 r (0 : Fin 1))
      = if r.val = n then w (ix2 (0 : Fin 1) (0 : Fin 1)) else f (ix2 r (0 : Fin 1)) := by
  by_cases h : r.val = n
  · rw [if_pos h]
    have e : (ix2 r (0 : Fin 1) : S1024x1.Idx) = (Rect.unit (s := S1024x1) off S1x1.size inb).emb (ix2 (0 : Fin 1) (0 : Fin 1)) := by
      rw [emb_col off n hn hoff inb]; subst h; rfl
    rw [e]
    exact read_write_in (Memref.whole cc0_scratch4).view (Rect.unit (s := S1024x1) off S1x1.size inb) f w (ix2 (0 : Fin 1) (0 : Fin 1))
  · rw [if_neg h]
    refine read_write_out (Memref.whole cc0_scratch4).view (Rect.unit (s := S1024x1) off S1x1.size inb) f w (ix2 r (0 : Fin 1)) fun y hy => h ?_
    have h1 : ((Rect.unit (s := S1024x1) off S1x1.size inb).emb y 0).val = r.val := by rw [hy]
    rw [Rect.emb_apply] at h1
    subst hoff
    have h2 : n + 1 * (y 0).val = r.val := h1
    have h3 : (y 0).val < 1 := (y 0).isLt
    omega

/-- Reading one row of accumulator 5. -/
theorem rd_row5 (f : FVec F S1024x1 .f32) (off : Fin 2 → ℕ) (n : ℕ) (hn : n < 1024) (hoff : off = ![n, 0])
    (inb : ∀ a, off a + S1x1.size a ≤ S1024x1.size a) :
    (Memref.whole cc0_scratch5).view.readAt (Elt F) (Rect.unit (s := S1024x1) off S1x1.size inb).toLoadRect f (ix2 (0 : Fin 1) (0 : Fin 1))
      = f (ix2 (⟨n, hn⟩ : Fin 1024) (0 : Fin 1)) := by
  rw [View.readAt_apply, View.read_apply, cast_eq]
  exact congrArg f (emb_col off n hn hoff inb)

/-- Writing one row of accumulator 5: that row is the payload, every other is as it was. -/
theorem wr_row5 (f : FVec F S1024x1 .f32) (w : FVec F S1x1 .f32) (off : Fin 2 → ℕ) (n : ℕ) (hn : n < 1024) (hoff : off = ![n, 0])
    (inb : ∀ a, off a + S1x1.size a ≤ S1024x1.size a) (r : Fin 1024) :
    (((Memref.whole cc0_scratch5).access (Rect.unit (s := S1024x1) off S1x1.size inb)).write (Elt F) f w Finset.univ : FVec F S1024x1 .f32) (ix2 r (0 : Fin 1))
      = if r.val = n then w (ix2 (0 : Fin 1) (0 : Fin 1)) else f (ix2 r (0 : Fin 1)) := by
  by_cases h : r.val = n
  · rw [if_pos h]
    have e : (ix2 r (0 : Fin 1) : S1024x1.Idx) = (Rect.unit (s := S1024x1) off S1x1.size inb).emb (ix2 (0 : Fin 1) (0 : Fin 1)) := by
      rw [emb_col off n hn hoff inb]; subst h; rfl
    rw [e]
    exact read_write_in (Memref.whole cc0_scratch5).view (Rect.unit (s := S1024x1) off S1x1.size inb) f w (ix2 (0 : Fin 1) (0 : Fin 1))
  · rw [if_neg h]
    refine read_write_out (Memref.whole cc0_scratch5).view (Rect.unit (s := S1024x1) off S1x1.size inb) f w (ix2 r (0 : Fin 1)) fun y hy => h ?_
    have h1 : ((Rect.unit (s := S1024x1) off S1x1.size inb).emb y 0).val = r.val := by rw [hy]
    rw [Rect.emb_apply] at h1
    subst hoff
    have h2 : n + 1 * (y 0).val = r.val := h1
    have h3 : (y 0).val < 1 := (y 0).isLt
    omega

end Cert.Proof.KernelIdeal
-- ==== Proof.Math.lean ====
module

public import Idealize.ShloMosaic.PureOps.Ideal
public import Idealize.ShloMosaic.Lib.IdealHost

@[expose] public section

namespace Cert.Proof.Math

open Idealize.ShloMosaic Finset

variable {ι : Type}

/-- The sum over `P` of the exponentials of the scores minus the largest score in `P`, weighted by `x`: the numerator of a
    softmax-weighted sum (its denominator at `x = 1`). -/
noncomputable def wsum (P : Finset ι) (c x : ι → EReal) : EReal := ∑ n ∈ P, Ideal.exp (c n - P.sup c) * x n

/-- The factor by which a partial weighted sum is rescaled when the running maximum goes from `a` to `b`. -/
noncomputable def rescale (a b : EReal) : EReal := if b = ⊥ then 0 else Ideal.exp (a - b)

/-- The largest of a nonempty set of real scores is real. -/
theorem sup_real (P : Finset ι) (hP : P.Nonempty) (c : ι → ℝ) : ∃ r : ℝ, P.sup (fun n => (c n : EReal)) = r := by
  obtain ⟨i, _, hi⟩ := Finset.exists_mem_eq_sup P hP fun n => (c n : EReal)
  exact ⟨c i, hi⟩

/-- A sum of reals, as extended reals, is the real sum. -/
theorem coe_sum (P : Finset ι) (f : ι → ℝ) : ∑ n ∈ P, (f n : EReal) = ((∑ n ∈ P, f n : ℝ) : EReal) := by
  classical
  induction P using Finset.induction_on with
  | empty => simp
  | insert a s ha ih => rw [Finset.sum_insert ha, Finset.sum_insert ha, ih, EReal.coe_add]

/-- Over real scores and real weights with a real shift, the weighted sum of exponentials is a real sum. -/
theorem sum_exp_real (P : Finset ι) (c x : ι → ℝ) (t : ℝ) :
    ∑ n ∈ P, Ideal.exp ((c n : EReal) - (t : EReal)) * (x n : EReal) = ((∑ n ∈ P, Real.exp (c n - t) * x n : ℝ) : EReal) := by
  rw [← coe_sum]
  refine Finset.sum_congr rfl fun n _ => ?_
  rw [← EReal.coe_sub, Ideal.exp_coe, EReal.coe_mul]

/-- The step of the running softmax: the weighted sum over `P ∪ Q` is the one over `P`, rescaled, plus the new rows'
    terms at the new maximum. -/
theorem wsum_union [DecidableEq ι] (P Q : Finset ι) (h : Disjoint P Q) (c x : ι → ℝ) :
    wsum (P ∪ Q) (fun n => (c n : EReal)) (fun n => (x n : EReal))
      = wsum P (fun n => (c n : EReal)) (fun n => (x n : EReal))
          * rescale (P.sup fun n => (c n : EReal)) ((P ∪ Q).sup fun n => (c n : EReal))
        + ∑ n ∈ Q, Ideal.exp ((c n : EReal) - (P ∪ Q).sup fun n => (c n : EReal)) * (x n : EReal) := by
  unfold wsum
  rw [Finset.sum_union h]
  congr 1
  rcases P.eq_empty_or_nonempty with rfl | hP
  · simp
  · obtain ⟨p, hp⟩ := sup_real P hP c
    obtain ⟨t, ht⟩ := sup_real (P ∪ Q) (hP.mono Finset.subset_union_left) c
    rw [hp, ht, sum_exp_real, sum_exp_real]
    unfold rescale
    rw [if_neg (EReal.coe_ne_bot t), ← EReal.coe_sub, Ideal.exp_coe, ← EReal.coe_mul, Finset.sum_mul]
    congr 1
    refine Finset.sum_congr rfl fun n _ => ?_
    rw [show c n - t = (c n - p) + (p - t) by ring, Real.exp_add]
    ring

/-- The same step for the denominator, whose weights are 1 and are not written. -/
theorem wsum_one (P : Finset ι) (c : ι → EReal) : wsum P c (fun _ => 1) = ∑ n ∈ P, Ideal.exp (c n - P.sup c) := by
  unfold wsum
  exact Finset.sum_congr rfl fun n _ => mul_one _

/-- Dividing each weight by the denominator plus a positive constant before the weighted sum, or the weighted sum
    afterwards, is the same. -/
theorem div_wsum (P : Finset ι) (c x : ι → ℝ) (e : ℝ) (he : 0 < e) :
    ∑ n ∈ P, Ideal.div (Ideal.exp ((c n : EReal) - P.sup fun n => (c n : EReal)))
        (wsum P (fun n => (c n : EReal)) (fun _ => 1) + (e : EReal)) * (x n : EReal)
      = Ideal.div (wsum P (fun n => (c n : EReal)) (fun n => (x n : EReal)))
          (wsum P (fun n => (c n : EReal)) (fun _ => 1) + (e : EReal)) := by
  rcases P.eq_empty_or_nonempty with rfl | hP
  · have h0 : (e : EReal) ≠ 0 := by exact_mod_cast he.ne'
    simp [wsum, Ideal.div, h0]
  · obtain ⟨t, ht⟩ := sup_real P hP c
    have h1 : wsum P (fun n => (c n : EReal)) (fun _ => 1) = ((∑ n ∈ P, Real.exp (c n - t) * 1 : ℝ) : EReal) := by
      unfold wsum
      rw [ht, ← sum_exp_real]
      rfl
    have hD : (0 : ℝ) < (∑ n ∈ P, Real.exp (c n - t) * 1) + e := by
      refine add_pos_of_nonneg_of_pos (Finset.sum_nonneg fun n _ => ?_) he
      rw [mul_one]; exact (Real.exp_pos _).le
    rw [h1, ← EReal.coe_add, Ideal.div_coe hD.ne']
    unfold wsum
    rw [ht, sum_exp_real, ← EReal.coe_mul, Finset.sum_mul, ← coe_sum]
    refine Finset.sum_congr rfl fun n _ => ?_
    rw [Ideal.div_coe hD.ne', ← EReal.coe_sub, Ideal.exp_coe, ← EReal.coe_mul, ← EReal.coe_mul]
    congr 1
    ring

/-- A masked sum is the sum over the rows the mask keeps. -/
theorem sum_mask {κ : Type} [Fintype κ] (p : κ → Prop) [DecidablePred p] (f : κ → EReal) :
    ∑ j, (if p j then f j else 0) = ∑ j ∈ Finset.univ.filter p, f j := (Finset.sum_filter _ _).symm

/-- A masked maximum, folded from -∞, is the supremum over the rows the mask keeps. -/
theorem fold_max_mask {κ : Type} [Fintype κ] (p : κ → Prop) [DecidablePred p] (f : κ → EReal) :
    (Finset.univ : Finset κ).fold max ⊥ (fun j => if p j then f j else ⊥) = (Finset.univ.filter p).sup f := by
  change (Finset.univ : Finset κ).sup (fun j => if p j then f j else ⊥) = _
  refine le_antisymm (Finset.sup_le fun j _ => ?_) (Finset.sup_le fun j hj => ?_)
  · by_cases h : p j
    · rw [if_pos h]; exact Finset.le_sup (f := f) (Finset.mem_filter.2 ⟨Finset.mem_univ _, h⟩)
    · rw [if_neg h]; exact bot_le
  · have h := (Finset.mem_filter.1 hj).2
    refine le_trans (le_of_eq ?_) (Finset.le_sup (f := fun j => if p j then f j else ⊥) (Finset.mem_univ j))
    exact (if_pos h).symm

end Cert.Proof.Math
-- ==== Proof.KI.Pay.lean ====
/-
  What a trip of the segment loop computes for its row, read element by element over the extended reals.
-/
module

public import proofs.«01_k».proof.Proof.KI.Trip
public import proofs.«01_k».proof.Proof.Math
public import Idealize.ShloMosaic.Lib.ValueIdx
public import Idealize.ShloMosaic.Lib.ValueLayout
public import Idealize.ShloMosaic.Lib.ValueLayoutCasts
public import Idealize.ShloMosaic.Lib.WordCmp
public import Idealize.ShloMosaic.Lib.IdealHost
public import Idealize.ShloMosaic.Lib.Pipeline.Value
public import Idealize.ShloMosaic.PureOps.Ideal.Laws

@[expose] public section

noncomputable section

namespace Cert.Proof.KernelIdeal

open Cert.KernelIdeal Cert.KernelIdeal.Gen Cert.Proof.Math
open Idealize.ShloMosaic Idealize.ShloMosaic.TcCoe Idealize.ShloMosaic.ValueIdx

/-- The pattern of -∞. -/
theorem neg_inf : Ideal.ofBits .f32 0xFF800000#32 = (⊥ : EReal) := by simp [Ideal.ofBits, Ideal.ieee]
/-- The pattern of zero. -/
theorem zero_pat : Ideal.ofBits .f32 0x00000000#32 = (0 : EReal) := Ideal.ofBits_zero_f32

/-- Comparing two different words. -/
theorem cmpi_eq_zero {w : ℕ} {a b : BitVec w} (h : ¬a = b) : IntOp.cmpi .eq a b = 0#1 := by
  show BitVec.ofBool (a == b) = 0#1
  rw [beq_false_of_ne h]; rfl

/-- Selecting on the equality of two words. -/
theorem select_eq {α : Type} {w : ℕ} (a b : BitVec w) (x y : α) : Scalar.select (IntOp.cmpi .eq a b) x y = if a = b then x else y := by
  by_cases h : a = b
  · rw [if_pos h, show IntOp.cmpi .eq a b = 1#1 by simp [IntOp.cmpi, h]]; rfl
  · rw [if_neg h, cmpi_eq_zero h]; rfl

/-- Broadcasting a column along its second axis. -/
theorem bcast_col {α : Type} {a b : ℕ} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) := by
  refine broadcastTo_apply _ _ _ _ fun d => ?_
  match d with
  | ⟨0, _⟩ =>
    show i.val = if a = 1 then 0 else i.val
    split
    · have := i.isLt; omega
    · rfl
  | ⟨1, _⟩ => rfl

section
variable (v26 : IVec S400x1 32) (a b : BitVec 32) (k : Fin (k0_t1_loop a b).trips)

/-- The mask of a trip: the rows whose id is the trip's. -/
theorem pay12_at (j : Fin 400) :
    k0_pay12 (F := Ideal) v26 a b 1#32 k (ix2 j (0 : Fin 1)) = IntOp.cmpi .eq (v26 (ix2 j (0 : Fin 1))) (Scf.iv a 1#32 k) := rfl

/-- The index a column reduction over a block's rows reads. -/
theorem lift_wide (h : Shape.Reduces S400x128 [0] S128) (c : Fin 128) (j : Fin 400) : h.lift (ix1 c) j = ix2 j c := by
  funext d
  apply Fin.ext
  match d with
  | ⟨0, _⟩ => rfl
  | ⟨1, _⟩ => rfl

/-- The same, of a block of one column. -/
theorem lift_col (h : Shape.Reduces S400x1 [0] S1) (j : Fin 400) : h.lift (ix1 (0 : Fin 1)) j = ix2 j (0 : Fin 1) := by
  funext d
  apply Fin.ext
  match d with
  | ⟨0, _⟩ => rfl
  | ⟨1, _⟩ => rfl

/-- A block's column sums. -/
theorem sum_wide (src : FVec Ideal S400x128 .f32) (acc : BitVec 32) (h : Shape.Reduces S400x128 [0] S128) (hφ : FKind.Formats .f32)
    (hacc : acc = FKind.add.neutral .f32 hφ) (c : Fin 128) :
    multiReduction .add [0] S128 src acc h hφ hacc (ix1 c) = ∑ j : Fin 400, src (ix2 j c) :=
  (Ideal.multiReduction_add_single src acc h hφ hacc (ix1 c)).trans (Finset.sum_congr rfl fun j _ => congrArg src (lift_wide h c j))

/-- The same, of a block of one column. -/
theorem sum_col (src : FVec Ideal S400x1 .f32) (acc : BitVec 32) (h : Shape.Reduces S400x1 [0] S1) (hφ : FKind.Formats .f32)
    (hacc : acc = FKind.add.neutral .f32 hφ) :
    multiReduction .add [0] S1 src acc h hφ hacc (ix1 (0 : Fin 1)) = ∑ j : Fin 400, src (ix2 j (0 : Fin 1)) :=
  (Ideal.multiReduction_add_single src acc h hφ hacc (ix1 (0 : Fin 1))).trans (Finset.sum_congr rfl fun j _ => congrArg src (lift_col h j))

/-- A block's column maxima. -/
theorem max_wide (src : FVec Ideal S400x128 .f32) (h : Shape.Reduces S400x128 [0] S128) (hφ : FKind.Formats .f32)
    (hacc : (0xFF800000#32 : BitVec 32) = FKind.maximumf.neutral .f32 hφ) (c : Fin 128) :
    multiReduction .maximumf [0] S128 src 0xFF800000#32 h hφ hacc (ix1 c)
      = (Finset.univ : Finset (Fin 400)).fold max ⊥ fun j => src (ix2 j c) := by
  refine (Ideal.multiReduction_maximumf_single src _ h hφ hacc (ix1 c)).trans ?_
  show Finset.fold max (Ideal.ofBits .f32 0xFF800000#32) _ _ = _
  rw [neg_inf]
  exact congrArg (fun f => Finset.fold max ⊥ f Finset.univ) (funext fun j : Fin 400 => congrArg src (lift_wide h c j))

/-- The same, of a block of one column. -/
theorem max_col (src : FVec Ideal S400x1 .f32) (h : Shape.Reduces S400x1 [0] S1) (hφ : FKind.Formats .f32)
    (hacc : (0xFF800000#32 : BitVec 32) = FKind.maximumf.neutral .f32 hφ) :
    multiReduction .maximumf [0] S1 src 0xFF800000#32 h hφ hacc (ix1 (0 : Fin 1))
      = (Finset.univ : Finset (Fin 400)).fold max ⊥ fun j => src (ix2 j (0 : Fin 1)) := by
  refine (Ideal.multiReduction_maximumf_single src _ h hφ hacc (ix1 (0 : Fin 1))).trans ?_
  show Finset.fold max (Ideal.ofBits .f32 0xFF800000#32) _ _ = _
  rw [neg_inf]
  exact congrArg (fun f => Finset.fold max ⊥ f Finset.univ) (funext fun j : Fin 400 => congrArg src (lift_col h j))

/-- The new row of the running sum. -/
theorem pay18_at (x : FVec Ideal S400x128 .f32) (v75 : FVec Ideal S1x128 .f32) (c : Fin 128) :
    k0_pay18 x v26 a b 1#32 k v75 (ix2 (0 : Fin 1) c)
      = v75 (ix2 (0 : Fin 1) c) + ∑ j : Fin 400, if v26 (ix2 j (0 : Fin 1)) = Scf.iv a 1#32 k then x (ix2 j c) else 0 := by
  unfold k0_pay18
  rw [shapeCast_self, addf_apply]
  congr 1
  refine (shapeCast_a_1a_apply _ _ _ _).trans ?_
  refine (sum_wide _ _ _ _ _ _).trans ?_
  refine Finset.sum_congr rfl fun j _ => ?_
  rw [ValueIdx.select_apply, bcast_col, shapeCast_self, pay12_at, select_eq]
  show (if _ then _ else Ideal.ofBits .f32 0x00000000#32) = _
  rw [zero_pat]

/-- The new row of the running maximum. -/
theorem pay13_at (x : FVec Ideal S400x128 .f32) (v82 : FVec Ideal S1x128 .f32) (c : Fin 128) :
    k0_pay1 (k0_pay13 x v26 a b 1#32 k) v82 (ix2 (0 : Fin 1) c)
      = max (v82 (ix2 (0 : Fin 1) c))
          ((Finset.univ : Finset (Fin 400)).fold max ⊥ fun j => if v26 (ix2 j (0 : Fin 1)) = Scf.iv a 1#32 k then x (ix2 j c) else ⊥) := by
  unfold k0_pay1 k0_pay13
  rw [shapeCast_self, maximumf_apply]
  refine congrArg (max _) ?_
  refine (shapeCast_a_1a_apply _ _ _ _).trans ?_
  refine (max_wide _ _ _ _ _).trans ?_
  refine congrArg (fun f => Finset.fold max ⊥ f Finset.univ) (funext fun j => ?_)
  rw [ValueIdx.select_apply, bcast_col, shapeCast_self, pay12_at, select_eq]
  show (if _ then _ else Ideal.ofBits .f32 0xFF800000#32) = _
  rw [neg_inf]

/-- The new entry of the count. -/
theorem pay14_at (v89 : FVec Ideal S1x1 .f32) :
    k0_pay2 (k0_pay14 v26 a b 1#32 k) v89 (ix2 (0 : Fin 1) (0 : Fin 1))
      = v89 (ix2 (0 : Fin 1) (0 : Fin 1)) + ∑ j : Fin 400, if v26 (ix2 j (0 : Fin 1)) = Scf.iv a 1#32 k then (1 : EReal) else 0 := by
  unfold k0_pay2 k0_pay14
  rw [shapeCast_self, addf_apply]
  congr 1
  refine (shapeCast_a_1a_apply _ _ _ _).trans ?_
  refine (sum_col _ _ _ _ _).trans ?_
  refine Finset.sum_congr rfl fun j _ => ?_
  rw [ValueIdx.sitofp_apply, ValueIdx.extui_apply, pay12_at]
  show ((((IntOp.cmpi .eq _ _ : BitVec 1).setWidth 32).toInt : ℝ) : EReal) = _
  by_cases h : v26 (ix2 j (0 : Fin 1)) = Scf.iv a 1#32 k
  · rw [if_pos h, show IntOp.cmpi .eq (v26 (ix2 j (0 : Fin 1))) (Scf.iv a 1#32 k) = 1#1 by simp [IntOp.cmpi, h]]
    norm_num
  · rw [if_neg h, cmpi_eq_zero h]
    norm_num

/-- The new entry of the running score maximum. -/
theorem pay15_at (sc : FVec Ideal S400x1 .f32) (v61 : FVec Ideal S1x1 .f32) :
    k0_pay15 sc v26 a b 1#32 k v61 (ix2 (0 : Fin 1) (0 : Fin 1))
      = max (v61 (ix2 (0 : Fin 1) (0 : Fin 1)))
          ((Finset.univ : Finset (Fin 400)).fold max ⊥ fun j => if v26 (ix2 j (0 : Fin 1)) = Scf.iv a 1#32 k then sc (ix2 j (0 : Fin 1)) else ⊥) := by
  unfold k0_pay15
  rw [maximumf_apply]
  refine congrArg (max _) ?_
  refine (shapeCast_a_1a_apply _ _ _ _).trans ?_
  refine (max_col _ _ _ _).trans ?_
  refine congrArg (fun f => Finset.fold max ⊥ f Finset.univ) (funext fun j => ?_)
  rw [ValueIdx.select_apply, pay12_at, select_eq]
  show (if _ then _ else Ideal.ofBits .f32 0xFF800000#32) = _
  rw [neg_inf]

/-- The factor rescaling the row's weighted sums. -/
theorem pay16_at (sc : FVec Ideal S400x1 .f32) (v61 : FVec Ideal S1x1 .f32) :
    k0_pay16 sc v26 a b 1#32 k v61 (ix2 (0 : Fin 1) (0 : Fin 1))
      = rescale (v61 (ix2 (0 : Fin 1) (0 : Fin 1))) (k0_pay15 sc v26 a b 1#32 k v61 (ix2 (0 : Fin 1) (0 : Fin 1))) := by
  unfold k0_pay16 rescale
  rw [ValueIdx.select_apply, ValueIdx.cmpf_apply]
  show Scalar.select (Ideal.cmp .oeq _ (Ideal.ofBits .f32 0xFF800000#32)) (Ideal.ofBits .f32 0x00000000#32) (Ideal.exp (_ - _)) = _
  rw [neg_inf, zero_pat]
  generalize k0_pay15 sc v26 a b 1#32 k v61 (ix2 (0 : Fin 1) (0 : Fin 1)) = T
  by_cases h : T = ⊥
  · rw [if_pos h, show Ideal.cmp .oeq T ⊥ = 1#1 by simp [Ideal.cmp, h]]; rfl
  · rw [if_neg h, show Ideal.cmp .oeq T ⊥ = 0#1 by simp [Ideal.cmp, h]]; rfl

/-- The block's exponentials, zero off the trip's rows. -/
theorem pay17_at (sc : FVec Ideal S400x1 .f32) (v61 : FVec Ideal S1x1 .f32) (j : Fin 400) :
    k0_pay17 sc v26 a b 1#32 k v61 (ix2 j (0 : Fin 1))
      = if v26 (ix2 j (0 : Fin 1)) = Scf.iv a 1#32 k then
          Ideal.exp (sc (ix2 j (0 : Fin 1)) - k0_pay15 sc v26 a b 1#32 k v61 (ix2 (0 : Fin 1) (0 : Fin 1))) else 0 := by
  unfold k0_pay17
  rw [ValueIdx.select_apply, pay12_at, select_eq]
  show (if _ then Ideal.exp (_ - broadcastTo S400x1 _ _ _) else Ideal.ofBits .f32 0x00000000#32) = _
  rw [zero_pat, broadcastTo_1b_ab_apply]

/-- The new entry of the denominator. -/
theorem pay4_at (s : FVec Ideal S1x1 .f32) (e : FVec Ideal S400x1 .f32) (v100 : FVec Ideal S1x1 .f32) :
    k0_pay4 s e v100 (ix2 (0 : Fin 1) (0 : Fin 1))
      = v100 (ix2 (0 : Fin 1) (0 : Fin 1)) * s (ix2 (0 : Fin 1) (0 : Fin 1)) + ∑ j : Fin 400, e (ix2 j (0 : Fin 1)) := by
  unfold k0_pay4
  rw [shapeCast_self, addf_apply, mulf_apply]
  congr 1
  refine (shapeCast_a_1a_apply _ _ _ _).trans ?_
  exact sum_col _ _ _ _ _

/-- The new row of the weighted sum. -/
theorem pay5_at (x : FVec Ideal S400x128 .f32) (s : FVec Ideal S1x1 .f32) (e : FVec Ideal S400x1 .f32) (v110 : FVec Ideal S1x128 .f32) (c : Fin 128) :
    k0_pay5 x s e v110 (ix2 (0 : Fin 1) c)
      = v110 (ix2 (0 : Fin 1) c) * s (ix2 (0 : Fin 1) (0 : Fin 1)) + ∑ j : Fin 400, e (ix2 j (0 : Fin 1)) * x (ix2 j c) := by
  unfold k0_pay5
  rw [shapeCast_self, addf_apply, mulf_apply, bcast_col]
  congr 1
  refine (shapeCast_a_1a_apply _ _ _ _).trans ?_
  refine (sum_wide _ _ _ _ _ _).trans ?_
  refine Finset.sum_congr rfl fun j _ => ?_
  rw [mulf_apply, bcast_col]

end

end Cert.Proof.KernelIdeal
-- ==== Proof.KI.Step.lean ====
/-
  What a trip of the segment loop, and the whole loop, do to the accumulators: a row that holds the sums and maxima over a
  set of the input's rows holds them, after its trip, over the set with the block's rows of its segment added.
-/
module

public import proofs.«01_k».proof.Proof.KI.Row
public import proofs.«01_k».proof.Proof.KI.Pay
public import proofs.«01_k».proof.Proof.KI.Chk

@[expose] public section

noncomputable section

namespace Cert.Proof.KernelIdeal

open Cert.KernelIdeal Cert.KernelIdeal.Gen Cert.Proof.Math
open Idealize.ShloMosaic Idealize.ShloMosaic.TcCoe Idealize.ShloMosaic.ValueIdx

variable {ι : Type} [DecidableEq ι] (X : ι → Fin 128 → ℝ) (C : ι → ℝ)

/-- Row `r` of the accumulators holds the sum, maximum, softmax numerator, count, denominator and largest score over the
    input rows in `P`. -/
structure Holds (S : St Ideal) (r : Fin 1024) (P : Finset ι) : Prop where
  sum : ∀ c, S.sum (ix2 r c) = ∑ n ∈ P, (X n c : EReal)
  max : ∀ c, S.max (ix2 r c) = P.sup fun n => (X n c : EReal)
  num : ∀ c, S.num (ix2 r c) = wsum P (fun n => (C n : EReal)) fun n => (X n c : EReal)
  cnt : S.cnt (ix2 r (0 : Fin 1)) = ∑ n ∈ P, (1 : EReal)
  den : S.den (ix2 r (0 : Fin 1)) = wsum P (fun n => (C n : EReal)) fun _ => ((1 : ℝ) : EReal)
  top : S.top (ix2 r (0 : Fin 1)) = P.sup fun n => (C n : EReal)

/-- The block's rows whose id is `w`. -/
def hits (ρ : Fin 400 ↪ ι) (v26 : IVec S400x1 32) (w : BitVec 32) : Finset ι :=
  (Finset.univ.filter fun j : Fin 400 => v26 (ix2 j (0 : Fin 1)) = w).map ρ

/-- A masked sum over a block's rows is the sum over the rows that carry the id. -/
theorem sum_hits (ρ : Fin 400 ↪ ι) (v26 : IVec S400x1 32) (w : BitVec 32) (f : ι → EReal) :
    (∑ j : Fin 400, if v26 (ix2 j (0 : Fin 1)) = w then f (ρ j) else 0) = ∑ n ∈ hits ρ v26 w, f n := by
  rw [sum_mask, hits, Finset.sum_map]

/-- A masked maximum over a block's rows is the maximum over the rows that carry the id. -/
theorem max_hits (ρ : Fin 400 ↪ ι) (v26 : IVec S400x1 32) (w : BitVec 32) (f : ι → EReal) :
    ((Finset.univ : Finset (Fin 400)).fold max ⊥ fun j => if v26 (ix2 j (0 : Fin 1)) = w then f (ρ j) else ⊥) = (hits ρ v26 w).sup f := by
  rw [fold_max_mask, hits, Finset.sup_map]
  rfl

section
variable (ρ : Fin 400 ↪ ι) (x : FVec Ideal S400x128 .f32) (sc : FVec Ideal S400x1 .f32) (v26 : IVec S400x1 32) (a b : BitVec 32)
  (ha : IsSeg a) (hb : IsSeg b) (hx : ∀ j c, x (ix2 j c) = (X (ρ j) c : EReal)) (hsc : ∀ j, sc (ix2 j (0 : Fin 1)) = (C (ρ j) : EReal))
  (hw : k0_chk1 a b) (k : Fin (k0_t1_loop a b).trips) (S : St Ideal)

include ha hb in
/-- The row a trip updates is one of the accumulators'. -/
theorem row_lt : a.toInt.toNat + k.val < 1024 := by
  have := (seg_iv_toNat a b ha hb k).2
  omega

include ha hb in
/-- A trip leaves every other row as it is. -/
theorem trip_other (r : Fin 1024) (P : Finset ι) (hr : ¬r.val = a.toInt.toNat + k.val) (h : Holds X C S r P) :
    Holds X C (tripSt x sc v26 a b hw k S) r P where
  sum c := by
    refine Eq.trans ?_ (h.sum c)
    exact (wr_row0 _ _ _ _ (row_lt a b ha hb k) (off2_eq a b ha hb k) _ r c).trans (if_neg hr)
  max c := by
    refine Eq.trans ?_ (h.max c)
    exact (wr_row1 _ _ _ _ (row_lt a b ha hb k) (off2_eq a b ha hb k) _ r c).trans (if_neg hr)
  num c := by
    refine Eq.trans ?_ (h.num c)
    exact (wr_row2 _ _ _ _ (row_lt a b ha hb k) (off2_eq a b ha hb k) _ r c).trans (if_neg hr)
  cnt := by
    refine Eq.trans ?_ h.cnt
    exact (wr_row3 _ _ _ _ (row_lt a b ha hb k) (off1_eq a b ha hb k) _ r).trans (if_neg hr)
  den := by
    refine Eq.trans ?_ h.den
    exact (wr_row4 _ _ _ _ (row_lt a b ha hb k) (off1_eq a b ha hb k) _ r).trans (if_neg hr)
  top := by
    refine Eq.trans ?_ h.top
    exact (wr_row5 _ _ _ _ (row_lt a b ha hb k) (off1_eq a b ha hb k) _ r).trans (if_neg hr)

include ha hb hsc in
/-- The largest score after the trip. -/
theorem top_step (r : Fin 1024) (P : Finset ι) (hr : r.val = a.toInt.toNat + k.val) (h : Holds X C S r P) (v61 : FVec Ideal S1x1 .f32)
    (h61 : v61 (ix2 (0 : Fin 1) (0 : Fin 1)) = P.sup fun n => (C n : EReal)) :
    k0_pay15 sc v26 a b 1#32 k v61 (ix2 (0 : Fin 1) (0 : Fin 1))
      = (P ∪ hits ρ v26 (Scf.iv a 1#32 k)).sup fun n => (C n : EReal) := by
  rw [pay15_at, h61, Finset.sup_union]
  simp only [hsc]
  rw [max_hits ρ v26 _ fun n => (C n : EReal)]

include ha hb hx hsc in
/-- A trip adds the block's rows of its segment to its row. -/
theorem trip_row (r : Fin 1024) (P : Finset ι) (hr : r.val = a.toInt.toNat + k.val) (h : Holds X C S r P)
    (hd : Disjoint P (hits ρ v26 (Scf.iv a 1#32 k))) :
    Holds X C (tripSt x sc v26 a b hw k S) r (P ∪ hits ρ v26 (Scf.iv a 1#32 k)) := by
  have hl := row_lt a b ha hb k
  have hrr : (⟨a.toInt.toNat + k.val, hl⟩ : Fin 1024) = r := Fin.ext hr.symm
  have rt : (Memref.whole cc0_scratch5).view.readAt (Elt Ideal) (r1 a b hw k).toLoadRect S.top (ix2 (0 : Fin 1) (0 : Fin 1))
      = P.sup fun n => (C n : EReal) := by
    rw [rd_row5 S.top _ _ hl (off1_eq a b ha hb k), hrr]; exact h.top
  have T := top_step X C ρ sc v26 a b ha hb hsc k S r P hr h _ rt
  exact {
    sum := fun c => by
      refine (wr_row0 _ _ _ _ hl (off2_eq a b ha hb k) _ r c).trans ((if_pos hr).trans ?_)
      rw [pay18_at, rd_row0 S.sum _ _ hl (off2_eq a b ha hb k), hrr, h.sum, Finset.sum_union hd]
      simp only [hx]
      rw [sum_hits ρ v26 _ fun n => (X n c : EReal)]
    max := fun c => by
      refine (wr_row1 _ _ _ _ hl (off2_eq a b ha hb k) _ r c).trans ((if_pos hr).trans ?_)
      rw [pay13_at, rd_row1 S.max _ _ hl (off2_eq a b ha hb k), hrr, h.max, Finset.sup_union]
      simp only [hx]
      rw [max_hits ρ v26 _ fun n => (X n c : EReal)]
    num := fun c => by
      refine (wr_row2 _ _ _ _ hl (off2_eq a b ha hb k) _ r c).trans ((if_pos hr).trans ?_)
      rw [pay5_at, pay16_at, T, rt, rd_row2 S.num _ _ hl (off2_eq a b ha hb k), hrr, h.num, wsum_union P _ hd C fun n => X n c]
      congr 1
      rw [← sum_hits ρ v26 _ fun n => Ideal.exp ((C n : EReal) - (P ∪ hits ρ v26 (Scf.iv a 1#32 k)).sup fun n => (C n : EReal)) * (X n c : EReal)]
      refine Finset.sum_congr rfl fun j _ => ?_
      rw [pay17_at, T, ite_mul, zero_mul, hx, hsc]
    cnt := by
      refine (wr_row3 _ _ _ _ hl (off1_eq a b ha hb k) _ r).trans ((if_pos hr).trans ?_)
      rw [pay14_at, rd_row3 S.cnt _ _ hl (off1_eq a b ha hb k), hrr, h.cnt, Finset.sum_union hd]
      rw [sum_hits ρ v26 _ fun _ => (1 : EReal)]
    den := by
      refine (wr_row4 _ _ _ _ hl (off1_eq a b ha hb k) _ r).trans ((if_pos hr).trans ?_)
      rw [pay4_at, pay16_at, T, rt, rd_row4 S.den _ _ hl (off1_eq a b ha hb k), hrr, h.den, wsum_union P _ hd C fun _ => 1]
      congr 1
      rw [← sum_hits ρ v26 _ fun n => Ideal.exp ((C n : EReal) - (P ∪ hits ρ v26 (Scf.iv a 1#32 k)).sup fun n => (C n : EReal)) * ((1 : ℝ) : EReal)]
      refine Finset.sum_congr rfl fun j _ => ?_
      rw [pay17_at, T, hsc, EReal.coe_one, mul_one]
    top := by
      refine (wr_row5 _ _ _ _ hl (off1_eq a b ha hb k) _ r).trans ((if_pos hr).trans ?_)
      unfold k0_pay3
      rw [shapeCast_self]
      exact T }

include ha hb hx hsc in
/-- After `k` trips the rows from the first id on, `k` of them, have the block's rows of their segments added; the others
    are as they were. -/
theorem loop_rows (P : Fin 1024 → Finset ι) (hP : ∀ r, Holds X C S r (P r)) (hd : ∀ r w, Disjoint (P r) (hits ρ v26 w)) :
    ∀ n, n ≤ (k0_t1_loop a b).trips → ∀ r : Fin 1024,
      Holds X C (stateTo x sc v26 a b hw S n) r
        (if a.toInt.toNat ≤ r.val ∧ r.val < a.toInt.toNat + n then P r ∪ hits ρ v26 (Scf.iv a 1#32 (r.val - a.toInt.toNat)) else P r) := by
  intro n
  induction n with
  | zero =>
    intro _ r
    rw [if_neg (by omega)]
    exact hP r
  | succ n ih =>
    intro hn r
    have hlt : n < (k0_t1_loop a b).trips := hn
    have e : stateTo x sc v26 a b hw S (n + 1) = tripSt x sc v26 a b hw ⟨n, hlt⟩ (stateTo x sc v26 a b hw S n) := by
      show (if h : _ then _ else _) = _
      rw [dif_pos hlt]
    rw [e]
    have hi := ih (Nat.le_of_lt hlt) r
    by_cases hr : r.val = a.toInt.toNat + n
    · rw [if_neg (by omega)] at hi
      rw [if_pos (by omega), show r.val - a.toInt.toNat = n by omega]
      exact trip_row X C ρ x sc v26 a b ha hb hx hsc hw ⟨n, hlt⟩ _ r (P r) hr hi (hd r _)
    · have e2 : (a.toInt.toNat ≤ r.val ∧ r.val < a.toInt.toNat + n) = (a.toInt.toNat ≤ r.val ∧ r.val < a.toInt.toNat + (n + 1)) :=
        propext (by omega)
      simp only [e2] at hi
      exact trip_other X C x sc v26 a b ha hb hw ⟨n, hlt⟩ _ r _ hr hi

end

end Cert.Proof.KernelIdeal
-- ==== Proof.Spec.lean ====
/-
  What both programs compute over the extended reals, written on the arguments: per segment the maximum, mean and sum of
  the input's rows and their softmax-weighted sum by score, and the last linear layer on the four.
-/
module

public import proofs.«01_k».proof.Proof.Math
public import Idealize.ShloMosaic.Lib.ValueIdx
public import Idealize.ShloMosaic.Lib.Pipeline.Value
public import Idealize.ShloMosaic.PureOps.Ideal.Laws

@[expose] public section

noncomputable section

namespace Cert.Proof.Spec

open Cert.Proof.Math
open Idealize.ShloMosaic Idealize.ShloMosaic.ValueIdx

/-- The input's rows. -/
abbrev Rows := FVec Ideal (⟨2, ![100000, 128]⟩ : Shape) .f32
/-- The rows' segment ids. -/
abbrev Ids := IVec (⟨1, ![100000]⟩ : Shape) 32
/-- One row of 128 numbers for each segment. -/
abbrev Wide := FVec Ideal (⟨2, ![1000, 128]⟩ : Shape) .f32

/-- The slope of the leaky rectifier, as printed. -/
def slope : EReal := Ideal.ofBits .f32 0x3C23D70A#32
/-- The constant kept from the denominator's zero, as printed. -/
def tiny : EReal := Ideal.ofBits .f32 0x24E69595#32

/-- The rectifier's slope is a real number. -/
theorem slope_real : ∃ r : ℝ, slope = r := by
  unfold slope
  simp only [Ideal.ofBits, Ideal.ieee]
  norm_num
  exact ⟨_, rfl⟩

/-- The softmax's small addend is a positive real number. -/
theorem tiny_real : ∃ r : ℝ, 0 < r ∧ tiny = r := by
  unfold tiny
  simp only [Ideal.ofBits, Ideal.ieee]
  have h1 : (619091349 >>> 23) % 256 = 73 := by decide
  have h2 : ¬BitVec.extractLsb' 31 1 (0x24E69595#32) = 1#1 := by decide
  norm_num [h1, h2]

/-- The leaky rectifier. -/
def leaky (h : EReal) : EReal := if 0 < h then h else slope * h

/-- One row's score: two layers with a leaky rectifier between. -/
def score (x : Fin 128 → EReal) (W1 : Fin 128 → Fin 128 → EReal) (b1 w2 : Fin 128 → EReal) (b2 : EReal) : EReal :=
  (∑ j, leaky ((∑ i, x i * W1 i j) + b1 j) * w2 j) + b2

/-- A finite extended real is real. -/
theorem real_of {x : EReal} (h : x ≠ ⊤ ∧ x ≠ ⊥) : ∃ r : ℝ, x = r := ⟨x.toReal, (EReal.coe_toReal h.1 h.2).symm⟩

/-- A sum of two reals is real. -/
theorem add_real {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩
/-- A product of two reals is real. -/
theorem mul_real {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩
/-- A sum of reals is real. -/
theorem sum_real {κ : Type} (P : Finset κ) (f : κ → EReal) (h : ∀ n, ∃ r : ℝ, f n = r) : ∃ r : ℝ, ∑ n ∈ P, f n = r := by
  choose g hg using h
  exact ⟨∑ n ∈ P, g n, by simp only [hg]; exact coe_sum P g⟩
/-- The rectifier of a real is real. -/
theorem leaky_real {x : EReal} (hx : ∃ r : ℝ, x = r) : ∃ r : ℝ, leaky x = r := by
  unfold leaky
  split
  · exact hx
  · exact mul_real slope_real hx

/-- Over finite arguments the score is real. -/
theorem score_real (x : Fin 128 → EReal) (W1 : Fin 128 → Fin 128 → EReal) (b1 w2 : Fin 128 → EReal) (b2 : EReal)
    (hx : ∀ i, ∃ r : ℝ, x i = r) (hW : ∀ i j, ∃ r : ℝ, W1 i j = r) (hb1 : ∀ j, ∃ r : ℝ, b1 j = r) (hw2 : ∀ j, ∃ r : ℝ, w2 j = r)
    (hb2 : ∃ r : ℝ, b2 = r) : ∃ r : ℝ, score x W1 b1 w2 b2 = r :=
  add_real (sum_real _ _ fun j => mul_real (leaky_real (add_real (sum_real _ _ fun i => mul_real (hx i) (hW i j)) (hb1 j))) (hw2 j)) hb2

variable (a0 : Rows) (a2 : Ids) (a3 : FVec Ideal (⟨2, ![128, 128]⟩ : Shape) .f32) (a4 : FVec Ideal (⟨1, ![128]⟩ : Shape) .f32)
  (a5 : FVec Ideal (⟨2, ![128, 1]⟩ : Shape) .f32) (a6 : FVec Ideal (⟨1, ![1]⟩ : Shape) .f32)
  (a7 : FVec Ideal (⟨2, ![512, 128]⟩ : Shape) .f32) (a8 : FVec Ideal (⟨1, ![128]⟩ : Shape) .f32)

/-- The score of an input row. -/
def rowScore (n : Fin 100000) : EReal :=
  score (fun i => a0 (ix2 n i)) (fun i j => a3 (ix2 i j)) (fun j => a4 (ix1 j)) (fun j => a5 (ix2 j (0 : Fin 1))) (a6 (ix1 (0 : Fin 1)))

/-- The rows of a segment. -/
def seg (s : ℕ) : Finset (Fin 100000) := Finset.univ.filter fun n => (a2 (ix1 n)).toInt = (s : ℤ)

/-- A segment's maximum, zero for a segment without rows. -/
def maxAt (g : Fin 1000) (c : Fin 128) : EReal :=
  if (seg a2 g.val).sup (fun n => a0 (ix2 n c)) = ⊥ then 0 else (seg a2 g.val).sup fun n => a0 (ix2 n c)
/-- A segment's sum. -/
def sumAt (g : Fin 1000) (c : Fin 128) : EReal := ∑ n ∈ seg a2 g.val, a0 (ix2 n c)
/-- A segment's mean, over one row at least. -/
def meanAt (g : Fin 1000) (c : Fin 128) : EReal :=
  Ideal.div (∑ n ∈ seg a2 g.val, a0 (ix2 n c)) (max (∑ n ∈ seg a2 g.val, (1 : EReal)) 1)
/-- A segment's rows weighted by the softmax of their scores. -/
def attnAt (g : Fin 1000) (c : Fin 128) : EReal :=
  Ideal.div (wsum (seg a2 g.val) (rowScore a0 a3 a4 a5 a6) fun n => a0 (ix2 n c))
    (wsum (seg a2 g.val) (rowScore a0 a3 a4 a5 a6) (fun _ => 1) + tiny)

/-- An array from its rows and columns. -/
def arr (f : Fin 1000 → Fin 128 → EReal) : Wide := fun i => f (i 0) (i 1)

/-- Four pieces of 128 columns make 512. -/
theorem conc : Shape.Concatenates [(⟨2, ![1000, 128]⟩ : Shape), ⟨2, ![1000, 128]⟩, ⟨2, ![1000, 128]⟩, ⟨2, ![1000, 128]⟩] ⟨2, ![1000, 512]⟩ 1 := by
  decide

/-- The four side by side. -/
def cat4 (p q r s : Wide) : FVec Ideal (⟨2, ![1000, 512]⟩ : Shape) .f32 :=
  concatenate ⟨2, ![1000, 512]⟩ 1 [⟨_, p⟩, ⟨_, q⟩, ⟨_, r⟩, ⟨_, s⟩] conc

/-- The last linear layer, at a row and a column. -/
def outAt (p q r s : Wide) (g : Fin 1000) (c : Fin 128) : EReal :=
  (∑ k : Fin 512, cat4 p q r s (ix2 g k) * a7 (ix2 k c)) + a8 (ix1 c)

/-- The result. -/
def result : Wide :=
  arr (outAt a7 a8 (arr (maxAt a0 a2)) (arr (meanAt a0 a2)) (arr (sumAt a0 a2)) (arr (attnAt a0 a2 a3 a4 a5 a6)))

end Cert.Proof.Spec

end
-- ==== Proof.KI.Score.lean ====
/-
  A block's scores and the last linear layer, read element by element over the extended reals.
-/
module

public import proofs.«01_k».proof.Proof.KI.Pay
public import proofs.«01_k».proof.Proof.Spec
public import Idealize.ShloMosaic.Lib.MatmulPlain

@[expose] public section

noncomputable section

namespace Cert.Proof.KernelIdeal

open Cert.KernelIdeal Cert.KernelIdeal.Gen Cert.Proof.Math
open Idealize.ShloMosaic Idealize.ShloMosaic.TcCoe Idealize.ShloMosaic.ValueIdx

/-- The index a row reduction reads. -/
theorem lift_row (h : Shape.Reduces S400x128 [1] S400) (j : Fin 400) (k : Fin 128) : h.lift (ix1 j) k = ix2 j k := by
  funext d
  apply Fin.ext
  match d with
  | ⟨0, _⟩ => rfl
  | ⟨1, _⟩ => rfl

/-- Summing a block's row. -/
theorem sum_row (src : FVec Ideal S400x128 .f32) (acc : BitVec 32) (h : Shape.Reduces S400x128 [1] S400) (hφ : FKind.Formats .f32)
    (hacc : acc = FKind.add.neutral .f32 hφ) (j : Fin 400) :
    multiReduction .add [1] S400 src acc h hφ hacc (ix1 j) = ∑ k : Fin 128, src (ix2 j k) :=
  (Ideal.multiReduction_add_single src acc h hφ hacc (ix1 j)).trans (Finset.sum_congr rfl fun k _ => congrArg src (lift_row h j k))

/-- Broadcasting one element along a column. -/
theorem bcast_one {α : Type} {a : ℕ} (x : (⟨2, ![1, 1]⟩ : Shape).Idx → α) (h : (⟨2, ![1, 1]⟩ : Shape).Broadcasts ⟨2, ![a, 1]⟩)
    (i : Fin a) : broadcastTo ⟨2, ![a, 1]⟩ x h (ix2 i (0 : Fin 1)) = x (ix2 (0 : Fin 1) (0 : Fin 1)) := by
  refine broadcastTo_apply _ _ _ _ fun d => ?_
  match d with
  | ⟨0, _⟩ => rfl
  | ⟨1, _⟩ => rfl

/-- The printed choice on `h > 0` is the leaky rectifier. -/
theorem leaky_eq (h : EReal) :
    Scalar.select (FloatOps.cmpf (F := Ideal) (φ := .f32) .ogt h (Ideal.ofBits .f32 0x00000000#32)) h (Ideal.ofBits .f32 0x3C23D70A#32 * h) = Spec.leaky h := by
  unfold Spec.leaky Spec.slope
  rw [zero_pat]
  show Scalar.select (Ideal.cmp .ogt h 0) _ _ = _
  by_cases hh : 0 < h
  · rw [if_pos hh, show Ideal.cmp .ogt h 0 = 1#1 by simp [Ideal.cmp, hh]]; rfl
  · rw [if_neg hh, show Ideal.cmp .ogt h 0 = 0#1 by simp [Ideal.cmp, hh]]; rfl

/-- A block's row's score. -/
theorem pay32_at (x : FVec Ideal S400x128 .f32) (W1 : FVec Ideal S128x128 .f32) (b1 w2 : FVec Ideal S1x128 .f32) (b2 : FVec Ideal S1x1 .f32)
    (j : Fin 400) :
    k0_pay32 (F := Ideal) x W1 b1 w2 b2 (ix2 j (0 : Fin 1)) =
      Spec.score (fun i => x (ix2 j i)) (fun i k => W1 (ix2 i k)) (fun k => b1 (ix2 (0 : Fin 1) k)) (fun k => w2 (ix2 (0 : Fin 1) k))
        (b2 (ix2 (0 : Fin 1) (0 : Fin 1))) := by
  unfold k0_pay32 Spec.score
  dsimp only
  rw [addf_apply, bcast_one, shapeCast_a_a1_apply]
  refine congrArg₂ (fun y z : EReal => y + z) ((sum_row _ _ _ _ _ j).trans (Finset.sum_congr rfl fun k _ => ?_))
    (by rw [shapeCast_self])
  rw [mulf_apply, broadcastTo_1b_ab_apply, shapeCast_self, shapeCast_self, select_apply, cmpf_apply, mulf_apply]
  have e : (addf (matmul (F := Ideal) dot_S400x128_S128x128_S400x128_1_0_0_1_n_n none x W1 (constant S400x128 .f32 0x00000000#32))
      (broadcastTo S400x128 b1 broadcasts_S1x128_S400x128)) (ix2 j k) =
      (∑ i, x (ix2 j i) * W1 (ix2 i k)) + b1 (ix2 (0 : Fin 1) k) := by
    rw [addf_apply, broadcastTo_1b_ab_apply]
    refine congrArg (fun z : EReal => z + b1 (ix2 (0 : Fin 1) k)) ?_
    refine (Ideal.matmul_plain_apply none x W1 _ j k).trans ?_
    show Ideal.ofBits .f32 0x00000000#32 + _ = _
    rw [zero_pat, zero_add]
  rw [e]
  exact congrArg (fun z : EReal => z * w2 (ix2 (0 : Fin 1) k)) (leaky_eq _)

/-- The last linear layer over the four pieces. -/
theorem pay11_at (sm mx : FVec Ideal S1000x128 .f32) (ct : FVec Ideal S1000x1 .f32) (nm : FVec Ideal S1000x128 .f32) (dn : FVec Ideal S1000x1 .f32)
    (Wf : FVec Ideal S512x128 .f32) (bf : FVec Ideal S1x128 .f32) (a8 : FVec Ideal S128 .f32) (p q s : Spec.Wide)
    (h8 : ∀ k, bf (ix2 (0 : Fin 1) k) = a8 (ix1 k))
    (hp : ∀ (g : Fin 1000) k, p (ix2 g k) = if mx (ix2 g k) = ⊥ then 0 else mx (ix2 g k))
    (hq : ∀ (g : Fin 1000) k, q (ix2 g k) = Ideal.div (sm (ix2 g k)) (max (ct (ix2 g (0 : Fin 1))) 1))
    (hs : ∀ (g : Fin 1000) k, s (ix2 g k) = Ideal.div (nm (ix2 g k)) (dn (ix2 g (0 : Fin 1)) + Spec.tiny)) :
    k0_pay11 (F := Ideal) sm mx ct nm dn Wf bf = Spec.arr (Spec.outAt Wf a8 p q sm s) := by
  funext i
  obtain ⟨g, k, rfl⟩ : ∃ (g : Fin 1000) (k : Fin 128), i = ix2 g k := ⟨i 0, i 1, eq_ix2 i⟩
  show _ = Spec.outAt Wf a8 p q sm s g k
  unfold k0_pay11 Spec.outAt
  rw [addf_apply, broadcastTo_1b_ab_apply, shapeCast_self, h8]
  refine congrArg (fun z : EReal => z + a8 (ix1 k)) ?_
  refine (Ideal.matmul_plain_apply none _ Wf _ g k).trans ?_
  show Ideal.ofBits .f32 0x00000000#32 + _ = _
  rw [zero_pat, zero_add]
  refine Finset.sum_congr rfl fun l _ => ?_
  refine congrArg (fun z : FVec Ideal S1000x512 .f32 => z (ix2 g l) * Wf (ix2 l k)) ?_
  unfold Spec.cat4
  have e1 : select (cmpf .oeq mx (broadcast S1000x128 (Scalar.ofBits (F := Ideal) .f32 0xFF800000#32)))
      (broadcast S1000x128 (Scalar.ofBits (F := Ideal) .f32 0x00000000#32)) mx = p := by
    funext i
    obtain ⟨g, k, rfl⟩ : ∃ (g : Fin 1000) (k : Fin 128), i = ix2 g k := ⟨i 0, i 1, eq_ix2 i⟩
    rw [hp, select_apply, cmpf_apply]
    show Scalar.select (Ideal.cmp .oeq (mx (ix2 g k)) (Ideal.ofBits .f32 0xFF800000#32)) (Ideal.ofBits .f32 0x00000000#32) _ = _
    rw [neg_inf, zero_pat]
    by_cases hh : mx (ix2 g k) = ⊥
    · rw [if_pos hh, show Ideal.cmp .oeq (mx (ix2 g k)) ⊥ = 1#1 by simp [Ideal.cmp, hh]]; rfl
    · rw [if_neg hh, show Ideal.cmp .oeq (mx (ix2 g k)) ⊥ = 0#1 by simp [Ideal.cmp, hh]]; rfl
  have e2 : divf sm (broadcastTo S1000x128 (maximumf ct (broadcast S1000x1 (Scalar.ofBits (F := Ideal) .f32 0x3F800000#32)))
      broadcasts_S1000x1_S1000x128) = q := by
    funext i
    obtain ⟨g, k, rfl⟩ : ∃ (g : Fin 1000) (k : Fin 128), i = ix2 g k := ⟨i 0, i 1, eq_ix2 i⟩
    rw [hq]
    show Ideal.div (sm (ix2 g k)) _ = _
    rw [bcast_col]
    show Ideal.div _ (max _ (Ideal.ofBits .f32 0x3F800000#32)) = _
    rw [Ideal.ofBits_one_f32]
  have e3 : divf nm (broadcastTo S1000x128 (addf dn (broadcast S1000x1 (Scalar.ofBits (F := Ideal) .f32 0x24E69595#32)))
      broadcasts_S1000x1_S1000x128) = s := by
    funext i
    obtain ⟨g, k, rfl⟩ : ∃ (g : Fin 1000) (k : Fin 128), i = ix2 g k := ⟨i 0, i 1, eq_ix2 i⟩
    rw [hs]
    show Ideal.div (nm (ix2 g k)) _ = _
    rw [bcast_col]
    rfl
  rw [e1, e2, e3]

end Cert.Proof.KernelIdeal

end
-- ==== Proof.KI.Value.lean ====
/-
  What the accumulators hold from point to point: each row, over the input rows of its segment so far.
-/
module

public import proofs.«01_k».proof.Proof.KI.Step
public import proofs.«01_k».proof.Proof.KI.Score
public import proofs.«01_k».proof.Proof.KI.Frame

@[expose] public section

noncomputable section

namespace Cert.Proof.KernelIdeal

open Cert.KernelIdeal Cert.KernelIdeal.Gen Cert.Proof.Math
open Idealize.ShloMosaic Idealize.ShloMosaic.TcCoe Idealize.ShloMosaic.ValueIdx

variable (m : (ℓ : Loc nD τ sig) → Buf (Elt Ideal) ℓ) (c : Dev nD)

/-- The input rows before a point whose segment is `r`. -/
def part (t : ℕ) (r : Fin 1024) : Finset (Fin 100000) :=
  Finset.univ.filter fun n => n.val < 400 * t ∧ (A2 m c (ix1 n)).toInt = (r.val : ℤ)

/-- The rows of the first points that carry an id. -/
theorem mem_part (t : ℕ) (r : Fin 1024) (n : Fin 100000) :
    n ∈ part m c t r ↔ n.val < 400 * t ∧ (A2 m c (ix1 n)).toInt = (r.val : ℤ) := by
  unfold part; rw [Finset.mem_filter]; exact and_iff_right (Finset.mem_univ _)

/-- A block's rows among the input's. -/
def rowEmb (t : Fin cfg0.N) : Fin 400 ↪ Fin 100000 :=
  ⟨row t, fun i j h => Fin.ext (by have := congrArg Fin.val h; simp only [row] at this; omega)⟩

/-- A block's row in the input. -/
theorem rowEmb_val (t : Fin cfg0.N) (j : Fin 400) : (rowEmb t j).val = 400 * t.val + j.val := rfl

/-- Ids that rise from each row to the next rise from any row to any later one. -/
theorem ids_mono (hs : ∀ n : Fin 99999, (A2 m c (ix1 n.castSucc)).toInt ≤ (A2 m c (ix1 n.succ)).toInt) {i j : Fin 100000} (h : i ≤ j) :
    (A2 m c (ix1 i)).toInt ≤ (A2 m c (ix1 j)).toInt :=
  (Fin.monotone_iff_le_succ (n := 99999) (f := fun n : Fin (99999 + 1) => (A2 m c (ix1 n)).toInt)).2 hs h

/-- A block's rows that carry an id. -/
theorem mem_hits (t : Fin cfg0.N) (v26 : IVec S400x1 32) (w : BitVec 32) (hv : ∀ j : Fin 400, v26 (ix2 j (0 : Fin 1)) = A2 m c (ix1 (row t j)))
    (n : Fin 100000) : n ∈ hits (rowEmb t) v26 w ↔ 400 * t.val ≤ n.val ∧ n.val < 400 * (t.val + 1) ∧ A2 m c (ix1 n) = w := by
  unfold hits
  simp only [Finset.mem_map, Finset.mem_filter, Finset.mem_univ, true_and, hv]
  constructor
  · rintro ⟨j, hj, rfl⟩
    have := j.isLt
    rw [rowEmb_val]
    exact ⟨by omega, by omega, hj⟩
  · rintro ⟨h1, h2, h3⟩
    have e : row t ⟨n.val - 400 * t.val, by omega⟩ = n := Fin.ext (by simp only [row]; omega)
    exact ⟨⟨n.val - 400 * t.val, by omega⟩, by rw [e]; exact h3, e⟩

variable (X : Fin 100000 → Fin 128 → ℝ) (C : Fin 100000 → ℝ)

/-- The cleared accumulators hold no rows. -/
theorem holds_init (r : Fin 1024) : Holds X C (initSt (F := Ideal)) r ∅ where
  sum k := by
    show k0_pay26 (F := Ideal) (ix2 r k) = _
    unfold k0_pay26; rw [shapeCast_self]; exact zero_pat
  max k := by
    show k0_pay27 (F := Ideal) (ix2 r k) = _
    unfold k0_pay27; rw [shapeCast_self]; exact neg_inf
  num k := by
    show k0_pay28 (F := Ideal) (ix2 r k) = _
    unfold k0_pay28; rw [shapeCast_self]; exact zero_pat
  cnt := by
    show k0_pay29 (F := Ideal) (ix2 r (0 : Fin 1)) = _
    unfold k0_pay29; rw [shapeCast_self]; exact zero_pat
  den := by
    show k0_pay30 (F := Ideal) (ix2 r (0 : Fin 1)) = _
    unfold k0_pay30; rw [shapeCast_self]; exact zero_pat
  top := by
    show k0_pay31 (F := Ideal) (ix2 r (0 : Fin 1)) = _
    unfold k0_pay31; rw [shapeCast_self]; exact neg_inf

/-- The score the block computes for one of its rows is that row's. -/
theorem score_at (t : Fin cfg0.N) (j : Fin 400) :
    k0_pay32 (F := Ideal) (iblk m c 1 t) (iblk m c 3 t) (iblk m c 4 t) (iblk m c 5 t) (iblk m c 6 t) (ix2 j (0 : Fin 1)) =
      Spec.rowScore (A0 m c) (A3 m c) (A4 m c) (A5 m c) (A6 m c) (row t j) := by
  refine (pay32_at _ _ _ _ _ j).trans ?_
  unfold Spec.rowScore
  congr 1
  · funext i; exact iblk1_eq m c t j i
  · funext i k; exact iblk3_eq m c t i k
  · funext k; exact iblk4_eq m c t k
  · funext k; exact iblk5_eq m c t k
  · exact iblk6_eq m c t

/-- Accumulators that agree at a row hold the same there. -/
theorem holds_cast {S S' : St Ideal} {r : Fin 1024} {P P' : Finset (Fin 100000)} (h : Holds X C S r P) (eS : S' = S) (eP : P = P') :
    Holds X C S' r P' := by
  subst eS eP; exact h

/-- A row's input rows so far, with those the block's loop adds. -/
theorem part_step (hr : ∀ c n, IsSeg (A2 m c n)) (hs : ∀ n : Fin 99999, (A2 m c (ix1 n.castSucc)).toInt ≤ (A2 m c (ix1 n.succ)).toInt)
    (T : Fin cfg0.N) (v26 : IVec S400x1 32) (hv : ∀ j : Fin 400, v26 (ix2 j (0 : Fin 1)) = A2 m c (ix1 (row T j))) (r : Fin 1024) :
    (if (fstAt m c T).toInt.toNat ≤ r.val ∧ r.val < (fstAt m c T).toInt.toNat + (k0_t1_loop (fstAt m c T) (lstAt m c T)).trips then
      part m c T.val r ∪ hits (rowEmb T) v26 (Scf.iv (fstAt m c T) 1#32 (r.val - (fstAt m c T).toInt.toNat)) else part m c T.val r) =
      part m c (T.val + 1) r := by
  have ha := (hyp_of m hr c T).1
  have hb := (hyp_of m hr c T).2
  have ea : (fstAt m c T).toInt = (A2 m c (ix1 (row T 0))).toInt := congrArg BitVec.toInt (fstAt_eq m c T)
  have eb : (lstAt m c T).toInt = (A2 m c (ix1 (row T 399))).toInt := congrArg BitVec.toInt (lstAt_eq m c T)
  have hn := (seg_loop (fstAt m c T) (lstAt m c T) ha hb).2.2.1
  have hab : (fstAt m c T).toInt ≤ (lstAt m c T).toInt := by
    rw [ea, eb]; exact ids_mono m c hs (by simp only [row, Fin.le_def]; omega)
  have ha0 := ha.1
  have hb0 := hb.1
  by_cases hin : (fstAt m c T).toInt.toNat ≤ r.val ∧ r.val < (fstAt m c T).toInt.toNat + (k0_t1_loop (fstAt m c T) (lstAt m c T)).trips
  · rw [if_pos hin]
    have hk : r.val - (fstAt m c T).toInt.toNat < (k0_t1_loop (fstAt m c T) (lstAt m c T)).trips := by omega
    have hiv := (seg_iv (fstAt m c T) (lstAt m c T) ha hb ⟨_, hk⟩).1
    have hiv' : (Scf.iv (fstAt m c T) 1#32 (r.val - (fstAt m c T).toInt.toNat)).toInt = (r.val : ℤ) := by
      refine hiv.trans ?_
      show _ + ((r.val - (fstAt m c T).toInt.toNat : ℕ) : ℤ) = _
      omega
    ext n
    rw [Finset.mem_union, mem_part, mem_part, mem_hits m c T _ _ hv]
    have hw : A2 m c (ix1 n) = Scf.iv (fstAt m c T) 1#32 (r.val - (fstAt m c T).toInt.toNat) ↔ (A2 m c (ix1 n)).toInt = (r.val : ℤ) :=
      ⟨fun h => by rw [h]; exact hiv', fun h => BitVec.eq_of_toInt_eq (h.trans hiv'.symm)⟩
    rw [hw]
    show _ ∨ (400 * T.val ≤ _ ∧ _ < 400 * (T.val + 1) ∧ _) ↔ _
    constructor
    · rintro (⟨h1, h2⟩ | ⟨h1, h2, h3⟩)
      · exact ⟨by omega, h2⟩
      · exact ⟨h2, h3⟩
    · rintro ⟨h1, h2⟩
      by_cases h : n.val < 400 * T.val
      · exact .inl ⟨h, h2⟩
      · exact .inr ⟨by omega, h1, h2⟩
  · rw [if_neg hin]
    ext n
    rw [mem_part, mem_part]
    constructor
    · rintro ⟨h1, h2⟩
      exact ⟨by omega, h2⟩
    · rintro ⟨h1, h2⟩
      refine ⟨?_, h2⟩
      by_contra h
      have m1 := ids_mono m c hs (i := row T 0) (j := n) (by rw [Fin.le_def]; show 400 * T.val + 0 ≤ _; omega)
      have m2 := ids_mono m c hs (i := n) (j := row T 399) (by rw [Fin.le_def]; show _ ≤ 400 * T.val + 399; omega)
      rw [← ea] at m1
      rw [← eb] at m2
      exact hin (by omega)

/-- A point's accumulators are the loop's after all its trips. -/
theorem pointSt_eq (b : Vec Ideal S1x1x400 .i32) (x : FVec Ideal S400x128 .f32) (bc : IVec S400x1 32) (W1 : FVec Ideal S128x128 .f32)
    (b1 w2 : FVec Ideal S1x128 .f32) (b2 : FVec Ideal S1x1 .f32) (hw : k0_chk1 (fstW b) (lstW b)) (S : St Ideal) :
    pointSt b x bc W1 b1 w2 b2 hw S = stateTo x (k0_pay32 (F := Ideal) x W1 b1 w2 b2) (k0_pay33 (F := Ideal) bc) (fstW b) (lstW b) hw S
      (k0_t1_loop (fstW b) (lstW b)).trips := by
  delta pointSt loopSt; rfl

/-- A point's loop from accumulators holding the input rows before it. -/
theorem point_rows (hr : ∀ c n, IsSeg (A2 m c n)) (hs : ∀ n : Fin 99999, (A2 m c (ix1 n.castSucc)).toInt ≤ (A2 m c (ix1 n.succ)).toInt)
    (hX : ∀ n k, A0 m c (ix2 n k) = (X n k : EReal))
    (hC : ∀ n, Spec.rowScore (A0 m c) (A3 m c) (A4 m c) (A5 m c) (A6 m c) n = (C n : EReal))
    (T : Fin cfg0.N) (S : St Ideal) (hS : ∀ r, Holds X C S r (part m c T.val r)) (hw : k0_chk1 (fstAt m c T) (lstAt m c T)) (r : Fin 1024) :
    Holds X C (pointSt (iblk m c 0 T) (iblk m c 1 T) (iblk m c 2 T) (iblk m c 3 T) (iblk m c 4 T) (iblk m c 5 T) (iblk m c 6 T) hw S) r
      (part m c (T.val + 1) r) := by
  have hv : ∀ j : Fin 400, k0_pay33 (F := Ideal) (iblk m c 2 T) (ix2 j (0 : Fin 1)) = A2 m c (ix1 (row T j)) := fun j => by
    unfold k0_pay33
    refine Eq.trans ?_ (iblk2_eq m c T j)
    exact congrFun (shapeCast_self _ _) _
  rw [← part_step m c hr hs T _ hv r, pointSt_eq]
  exact loop_rows X C (rowEmb T) (iblk m c 1 T)
    (k0_pay32 (F := Ideal) (iblk m c 1 T) (iblk m c 3 T) (iblk m c 4 T) (iblk m c 5 T) (iblk m c 6 T))
    (k0_pay33 (F := Ideal) (iblk m c 2 T)) (fstAt m c T) (lstAt m c T) (hyp_of m hr c T).1 (hyp_of m hr c T).2
    (fun j k => (iblk1_eq m c T j k).trans (hX _ _)) (fun j => (score_at m c T j).trans (hC _))
    hw S (part m c T.val) hS
    (fun r w => Finset.disjoint_left.2 fun n h1 h2 => by
      have h1 := ((mem_part m c T.val r n).1 h1).1
      have h2 : 400 * T.val ≤ n.val := ((mem_hits m c T _ w hv n).1 h2).1
      omega)
    (k0_t1_loop (fstAt m c T) (lstAt m c T)).trips (Nat.le_refl _) r

/-- Before the first point no row has been seen. -/
theorem part_zero (r : Fin 1024) : part m c 0 r = ∅ := Finset.eq_empty_of_forall_notMem fun n hn => by
  have := ((mem_part m c 0 r n).1 hn).1; omega

/-- Before each point the accumulators' rows hold the input rows so far of their segments. -/
theorem held (hr : ∀ c n, IsSeg (A2 m c n)) (hs : ∀ n : Fin 99999, (A2 m c (ix1 n.castSucc)).toInt ≤ (A2 m c (ix1 n.succ)).toInt)
    (hX : ∀ n k, A0 m c (ix2 n k) = (X n k : EReal))
    (hC : ∀ n, Spec.rowScore (A0 m c) (A3 m c) (A4 m c) (A5 m c) (A6 m c) n = (C n : EReal))
    (t : ℕ) (ht : t ≤ 250) (r : Fin 1024) : Holds X C (stAt m c t) r (part m c t r) := by
  induction t generalizing r with
  | zero =>
    rw [part_zero]
    exact holds_init X C r
  | succ t ih =>
    exact holds_cast X C (point_rows m c X C hr hs hX hC ⟨t, ht⟩ (stAt m c t) (ih (Nat.le_of_succ_le ht))
      (chk_of _ _ (hyp_of m hr c ⟨t, ht⟩).1 (hyp_of m hr c ⟨t, ht⟩).2) r) (stAt_succ m (hyp_of m hr) c ⟨t, ht⟩) rfl

end Cert.Proof.KernelIdeal

end
-- ==== Proof.KI.Result.lean ====
/-
  The kernel's result array: the last point's linear layer on what the accumulators hold over all the input's rows.
-/
module

public import proofs.«01_k».proof.Proof.KI.Value
public import Idealize.ShloMosaic.Lib.Pipeline.ValueKit.Geometry

@[expose] public section

noncomputable section

namespace Cert.Proof.KernelIdeal

open Cert.KernelIdeal Cert.KernelIdeal.Gen Cert.Proof.Math
open Idealize.ShloMosaic Idealize.ShloMosaic.TcCoe Idealize.ShloMosaic.ValueIdx
open Idealize.SL.Sem

variable (m : (ℓ : Loc nD τ sig) → Buf (Elt Ideal) ℓ) (c : Dev nD)

/-- A row of the first thousand among the accumulators'. -/
def up (g : Fin 1000) : Fin 1024 := ⟨g.val, by have := g.isLt; omega⟩

/-- The wide accumulators' first 1000 rows, by index. -/
theorem emb_rows2 (g : Fin 1000) (k : Fin 128) : (rows2 cc0_scratch0).emb (ix2 g k) = ix2 (up g) k := by
  funext a; refine Fin.ext ?_
  rw [Rect.emb_apply]
  match a with
  | ⟨0, _⟩ => show 0 + 1 * g.val = g.val; omega
  | ⟨1, _⟩ => show 0 + 1 * k.val = k.val; omega

/-- The column accumulators' first 1000 rows, by index. -/
theorem emb_rows1 (g : Fin 1000) : (rows1 cc0_scratch3).emb (ix2 g (0 : Fin 1)) = ix2 (up g) (0 : Fin 1) := by
  funext a; refine Fin.ext ?_
  rw [Rect.emb_apply]
  match a with
  | ⟨0, _⟩ => show 0 + 1 * g.val = g.val; omega
  | ⟨1, _⟩ => rfl

/-- After all the points, a row's input rows are its segment. -/
theorem part_all (g : Fin 1000) : part m c 250 (up g) = Spec.seg (A2 m c) g.val := by
  ext n
  rw [mem_part]
  unfold Spec.seg
  rw [Finset.mem_filter]
  have := n.isLt
  exact ⟨fun h => ⟨Finset.mem_univ _, h.2⟩, fun h => ⟨by omega, h.2⟩⟩

/-- The last point's result. -/
theorem outOf_eq (S : St Ideal) (X : Fin 100000 → Fin 128 → ℝ) (C : Fin 100000 → ℝ)
    (hX : ∀ n k, A0 m c (ix2 n k) = (X n k : EReal))
    (hC : ∀ n, Spec.rowScore (A0 m c) (A3 m c) (A4 m c) (A5 m c) (A6 m c) n = (C n : EReal))
    (hS : ∀ g : Fin 1000, Holds X C S (up g) (Spec.seg (A2 m c) g.val)) (Wf : FVec Ideal S512x128 .f32) (bf : FVec Ideal S1x128 .f32)
    (hb : ∀ k, bf (ix2 (0 : Fin 1) k) = A8 m c (ix1 k)) :
    outOf S Wf bf = Spec.result (A0 m c) (A2 m c) (A3 m c) (A4 m c) (A5 m c) (A6 m c) Wf (A8 m c) := by
  have hx : ∀ k, (fun n => A0 m c (ix2 n k)) = fun n => (X n k : EReal) := fun k => funext fun n => hX n k
  have hc : Spec.rowScore (A0 m c) (A3 m c) (A4 m c) (A5 m c) (A6 m c) = fun n => (C n : EReal) := funext hC
  have r0 : ∀ (g : Fin 1000) (k : Fin 128), ((Memref.whole cc0_scratch0).view.readAt (Elt Ideal) (rows2 cc0_scratch0).toLoadRect S.sum) (ix2 g k) = S.sum (ix2 (up g) k) :=
    fun g k => congrArg S.sum (emb_rows2 g k)
  have r1 : ∀ (g : Fin 1000) (k : Fin 128), ((Memref.whole cc0_scratch1).view.readAt (Elt Ideal) (rows2 cc0_scratch1).toLoadRect S.max) (ix2 g k) = S.max (ix2 (up g) k) :=
    fun g k => congrArg S.max (emb_rows2 g k)
  have r2 : ∀ (g : Fin 1000) (k : Fin 128), ((Memref.whole cc0_scratch2).view.readAt (Elt Ideal) (rows2 cc0_scratch2).toLoadRect S.num) (ix2 g k) = S.num (ix2 (up g) k) :=
    fun g k => congrArg S.num (emb_rows2 g k)
  have r3 : ∀ (g : Fin 1000), ((Memref.whole cc0_scratch3).view.readAt (Elt Ideal) (rows1 cc0_scratch3).toLoadRect S.cnt) (ix2 g (0 : Fin 1)) = S.cnt (ix2 (up g) (0 : Fin 1)) :=
    fun g => congrArg S.cnt (emb_rows1 g)
  have r4 : ∀ (g : Fin 1000), ((Memref.whole cc0_scratch4).view.readAt (Elt Ideal) (rows1 cc0_scratch4).toLoadRect S.den) (ix2 g (0 : Fin 1)) = S.den (ix2 (up g) (0 : Fin 1)) :=
    fun g => congrArg S.den (emb_rows1 g)
  unfold outOf Spec.result
  have hsum : (Memref.whole cc0_scratch0).view.readAt (Elt Ideal) (rows2 cc0_scratch0).toLoadRect S.sum = Spec.arr (Spec.sumAt (A0 m c) (A2 m c)) := by
    funext i
    obtain ⟨g, k, rfl⟩ : ∃ (g : Fin 1000) (k : Fin 128), i = ix2 g k := ⟨i 0, i 1, eq_ix2 i⟩
    refine (r0 g k).trans (((hS g).sum k).trans ?_)
    show _ = Spec.sumAt (A0 m c) (A2 m c) g k
    unfold Spec.sumAt
    simp only [hX]
  rw [hsum]
  refine pay11_at _ _ _ _ _ Wf bf (A8 m c) _ _ _ hb (fun g k => ?_) (fun g k => ?_) (fun g k => ?_)
  · rw [r1 g k, (hS g).max k]
    show Spec.maxAt _ _ g k = _
    unfold Spec.maxAt
    rw [hx]
  · rw [r3 g, (hS g).cnt]
    rfl
  · rw [r2 g k, r4 g, (hS g).num k, (hS g).den]
    show Spec.attnAt _ _ _ _ _ _ g k = _
    unfold Spec.attnAt
    rw [hx, hc, EReal.coe_one]

/-- The last point. -/
abbrev tLast : Fin cfg0.N := ⟨249, by decide⟩

/-- The result array after the run is what the last point leaves in its buffer. -/
theorem arr9 : (dats m 0 c).arrAt 9 cfg0.N = outOf (stAt m c 250) (iblk m c 7 tLast) (iblk m c 8 tLast) := by
  refine (dats m 0 c).arrAt_eq_of_after_last 9 tLast (by decide +kernel) _ fun j => ?_
  rw [after0_9]
  rfl

/-- The kernel's run and its result. -/
theorem run_value (ρ : Dev nD → PrngReg) (hr : ∀ c n, IsSeg (A2 m c n))
    (hs : ∀ (c : Dev nD) (n : Fin 99999), (A2 m c (ix1 n.castSucc)).toInt ≤ (A2 m c (ix1 n.succ)).toInt)
    (X : Dev nD → Fin 100000 → Fin 128 → ℝ) (C : Dev nD → Fin 100000 → ℝ)
    (hX : ∀ c n k, A0 m c (ix2 n k) = (X c n k : EReal))
    (hC : ∀ c n, Spec.rowScore (A0 m c) (A3 m c) (A4 m c) (A5 m c) (A6 m c) n = (C c n : EReal)) :
    θ_run defs (onTc (τ := τ) (main (F := Ideal))) ⟨m, fun _ => 0, ρ⟩ (fun r => ∀ c : Dev nD,
      r.2.mem ((c.tc : Thread nD τ).loc main_v6) =
        Spec.result (A0 m c) (A2 m c) (A3 m c) (A4 m c) (A5 m c) (A6 m c) (A7 m c) (A8 m c)) :=
  (θ_run defs _ _).mono (fun r h c => by
    refine (h.1.out_eq c 9).trans ((arr9 m c).trans ?_)
    have h7 : iblk m c 7 tLast = A7 m c := by
      funext i
      obtain ⟨a, b, rfl⟩ : ∃ (a : Fin 512) (b : Fin 128), i = ix2 a b := ⟨i 0, i 1, eq_ix2 i⟩
      exact iblk7_eq m c tLast a b
    rw [h7]
    exact outOf_eq m c _ (X c) (C c) (hX c) (hC c)
      (fun g => by rw [← part_all]; exact held m c (X c) (C c) hr (hs c) (hX c) (hC c) 250 (Nat.le_refl _) (up g)) _ _
      (fun k => iblk8_eq m c tLast k)) (run_main m ρ (hyp_of m hr))

end Cert.Proof.KernelIdeal

end
-- ==== Proof.RefTerm.lean ====
/-
  The reference's result by its parts: the segment mask, the rows' scores, the four pieces and the last layer, each as the
  host operations print it.
-/
module

public import proofs.«01_k».proof.Proof.Gen.ReferenceIdeal.Run

@[expose] public section

noncomputable section

namespace Cert.Proof.RefTerm

open Cert.ReferenceIdeal Cert.ReferenceIdeal.Gen Idealize.ShloMosaic Idealize.ShloMosaic.TcCoe Idealize.SL.Sem

variable {F : FTy → Type} [FloatOps F]
variable (a0 : FVec F S100000x128 .f32) (a2 : IVec S100000 32) (a3 : FVec F S128x128 .f32) (a4 : FVec F S128 .f32)
  (a5 : FVec F S128x1 .f32) (a6 : FVec F S1 .f32) (a7 : FVec F S512x128 .f32) (a8 : FVec F S128 .f32)

/-- Which rows each segment has. -/
def mask : IVec S1000x100000x1 1 :=
  broadcastInDim S1000x100000x1 ![0, 1] bcast_S1000x100000_S1000x100000x1_0_1 (cmpi .eq (broadcastInDim S1000x100000 ![0, 1] bcast_S1000x1_S1000x100000_0_1 (broadcastInDim S1000x1 ![0] bcast_S1000_S1000x1_0 (iotaInDim S1000 32 0))) (broadcastInDim S1000x100000 ![0, 1] bcast_S1x100000_S1000x100000_0_1 (broadcastInDim S1x100000 ![1] bcast_S100000_S1x100000_1 a2)))

/-- The ids as a column. -/
def ids : IVec S100000x1 32 := broadcastInDim S100000x1 ![0] bcast_S100000_S100000x1_0 a2

/-- The first layer. -/
def hid : FVec F S100000x128 .f32 :=
  addf (Host.dotGeneral dot_S100000x128_S128x128_S100000x128_1_0_0_1_n_n none a0 a3) (broadcastInDim S100000x128 ![0, 1] bcast_S1x128_S100000x128_0_1 (broadcastInDim S1x128 ![1] bcast_S128_S1x128_1 a4))

/-- The rows' scores. -/
def scores : FVec F S100000 .f32 :=
  shapeCast S100000 (addf (Host.dotGeneral dot_S100000x128_S128x1_S100000x1_1_0_0_1_n_n none (select (cmpf .oge (hid a0 a3 a4) (broadcastInDim S100000x128 ![] bcast_S_S100000x128 (constant S_ .f32 0x00000000#32))) (hid a0 a3 a4) (mulf (broadcastInDim S100000x128 ![] bcast_S_S100000x128 (id (constant S_ .f32 0x3C23D70A#32))) (hid a0 a3 a4))) a5) (broadcastInDim S100000x1 ![0, 1] bcast_S1x1_S100000x1_0_1 (broadcastInDim S1x1 ![1] bcast_S1_S1x1_1 a6))) shapeCasts_S100000x1_S100000

/-- The segments' maxima, before the empty ones are set to zero. -/
def segMax : FVec F S1000x128 .f32 :=
  Host.reduce FloatOps.maximumf (select (broadcastInDim S1000x100000x128 ![0, 1, 2] bcast_S1000x100000x1_S1000x100000x128_0_1_2 (mask a2)) (broadcastInDim S1000x100000x128 ![0, 1, 2] bcast_S1x100000x128_S1000x100000x128_0_1_2 (broadcastInDim S1x100000x128 ![1, 2] bcast_S100000x128_S1x100000x128_1_2 a0)) (broadcastInDim S1000x100000x128 ![] bcast_S_S1000x100000x128 (id (constant S_ .f32 0xFF800000#32)))) (constant S_ .f32 0xFF800000#32) reducesTo_S1000x100000x128_S1000x128_d1 h_S_

/-- The segments' maxima. -/
def maxs : FVec F S1000x128 .f32 :=
  select (cmpf .olt (Host.absf (segMax a0 a2)) (broadcastInDim S1000x128 ![] bcast_S_S1000x128 (constant S_ .f32 0x7F800000#32))) (segMax a0 a2) (broadcastInDim S1000x128 ![] bcast_S_S1000x128 (id (constant S_ .f32 0x00000000#32)))

/-- Rows summed by segment. -/
def segSum (x : FVec F S100000x128 .f32) : FVec F S1000x128 .f32 :=
  Host.scatterAdd scatter_S1000x128_S100000x1_S100000x128_1_0_0_1 (broadcastInDim S1000x128 ![] bcast_S_S1000x128 (constant S_ .f32 0x00000000#32)) (ids a2) x

/-- The segments' means. -/
def means : FVec F S1000x128 .f32 :=
  Host.divf (segSum a2 a0) (broadcastInDim S1000x128 ![0, 1] bcast_S1000x1_S1000x128_0_1 (maximumf (Host.scatterAdd scatter_S1000x1_S100000x1_S100000x1_1_0_0_1 (broadcastInDim S1000x1 ![] bcast_S_S1000x1 (constant S_ .f32 0x00000000#32)) (ids a2) (broadcastInDim S100000x1 ![] bcast_S_S100000x1 (constant S_ .f32 0x3F800000#32))) (broadcastInDim S1000x1 ![] bcast_S_S1000x1 (constant S_ .f32 0x3F800000#32))))

/-- The segments' largest scores, before the empty ones are set to zero. -/
def segTop (sc : FVec F S100000 .f32) : FVec F S1000 .f32 :=
  shapeCast S1000 (Host.reduce FloatOps.maximumf (select (mask a2) (broadcastInDim S1000x100000x1 ![0, 1, 2] bcast_S1x100000x1_S1000x100000x1_0_1_2 (broadcastInDim S1x100000x1 ![1, 2] bcast_S100000x1_S1x100000x1_1_2 (broadcastInDim S100000x1 ![0] bcast_S100000_S100000x1_0 sc))) (broadcastInDim S1000x100000x1 ![] bcast_S_S1000x100000x1 (id (constant S_ .f32 0xFF800000#32)))) (constant S_ .f32 0xFF800000#32) reducesTo_S1000x100000x1_S1000x1_d1 h_S_) shapeCasts_S1000x1_S1000

/-- The segments' largest scores. -/
def tops (sc : FVec F S100000 .f32) : FVec F S1000 .f32 :=
  select (cmpf .olt (Host.absf (segTop a2 sc)) (broadcastInDim S1000 ![] bcast_S_S1000 (constant S_ .f32 0x7F800000#32))) (segTop a2 sc) (broadcastInDim S1000 ![] bcast_S_S1000 (id (constant S_ .f32 0x00000000#32)))

/-- The ids a look-up reads, negative ones counted from the end. -/
def look : IVec S100000x1 32 :=
  broadcastInDim S100000x1 ![0] bcast_S100000_S100000x1_0 (select (cmpi .slt a2 (broadcastInDim S100000 ![] bcast_S_S100000 (constantI S_ 32 0#32))) (addi a2 (broadcastInDim S100000 ![] bcast_S_S100000 (constantI S_ 32 1000#32))) a2)

/-- The rows' exponentials. -/
def exps (sc : FVec F S100000 .f32) : FVec F S100000 .f32 :=
  Host.exp (subf sc (Host.gather gather_S1000_S100000x1_S100000_n_0_n_n_0_1_1 (tops a2 sc) (look a2)))

/-- The segments' denominators. -/
def dens (sc : FVec F S100000 .f32) : FVec F S1000 .f32 :=
  Host.scatterAdd scatter_S1000_S100000x1_S100000_n_0_0_1 (broadcastInDim S1000 ![] bcast_S_S1000 (constant S_ .f32 0x00000000#32)) (ids a2) (exps a2 sc)

/-- The rows' weights. -/
def weights (sc : FVec F S100000 .f32) : FVec F S100000 .f32 :=
  Host.divf (exps a2 sc) (addf (Host.gather gather_S1000_S100000x1_S100000_n_0_n_n_0_1_1 (dens a2 sc) (look a2)) (broadcastInDim S100000 ![] bcast_S_S100000 (constant S_ .f32 0x24E69595#32)))

/-- The weighted rows. -/
def weighted (sc : FVec F S100000 .f32) : FVec F S100000x128 .f32 :=
  mulf (broadcastInDim S100000x128 ![0, 1] bcast_S100000x1_S100000x128_0_1 (broadcastInDim S100000x1 ![0] bcast_S100000_S100000x1_0 (weights a2 sc))) a0

/-- The last layer on four pieces. -/
def last (p q r s : FVec F S1000x128 .f32) : FVec F S1000x128 .f32 :=
  addf (Host.dotGeneral dot_S1000x512_S512x128_S1000x128_1_0_0_1_n_n none (concatenate S1000x512 1 [⟨S1000x128, p⟩, ⟨S1000x128, q⟩, ⟨S1000x128, r⟩, ⟨S1000x128, s⟩] concatenates_S1000x128_S1000x128_S1000x128_S1000x128_S1000x512_d1) a7) (broadcastInDim S1000x128 ![0, 1] bcast_S1x128_S1000x128_0_1 (broadcastInDim S1x128 ![1] bcast_S128_S1x128_1 a8))

set_option maxRecDepth 8192 in
set_option maxHeartbeats 4000000 in
/-- The reference's result, by its parts. -/
theorem res_eq (m : (ℓ : Loc nD τ sig) → Buf (Elt F) ℓ) (c : Dev nD) (b0 : FVec F S100000x128 .f32) (b2 : IVec S100000 32)
    (b3 : FVec F S128x128 .f32) (b4 : FVec F S128 .f32) (b5 : FVec F S128x1 .f32) (b6 : FVec F S1 .f32) (b7 : FVec F S512x128 .f32) (b8 : FVec F S128 .f32)
    (h0 : m ((c.tc : Thread nD τ).loc main_arg0) = b0) (h2 : m ((c.tc : Thread nD τ).loc main_arg2) = b2)
    (h3 : m ((c.tc : Thread nD τ).loc main_arg3) = b3) (h4 : m ((c.tc : Thread nD τ).loc main_arg4) = b4)
    (h5 : m ((c.tc : Thread nD τ).loc main_arg5) = b5) (h6 : m ((c.tc : Thread nD τ).loc main_arg6) = b6)
    (h7 : m ((c.tc : Thread nD τ).loc main_arg7) = b7) (h8 : m ((c.tc : Thread nD τ).loc main_arg8) = b8) :
    Value.res_main_v83 m c = last b7 b8 (maxs b0 b2) (means b0 b2) (segSum b2 b0) (segSum b2 (weighted b0 b2 (scores b0 b3 b4 b5 b6))) := by
  subst h0 h2 h3 h4 h5 h6 h7 h8
  unfold Value.res_main_v83 last maxs means weighted weights dens exps tops segTop segMax segSum scores hid mask ids look
  rfl

end Cert.Proof.RefTerm

end
-- ==== Proof.RefOps.lean ====
/-
  The host operations a segment reduction prints as, read element by element over the extended reals: a scatter of rows
  by one index each, the maximum along a middle axis, and the look-up of a segment's number by its rows.
-/
module

public import Idealize.ShloMosaic.Lib.Routing.OpsPair
public import Idealize.ShloMosaic.Lib.StableHlo.Predicate
public import Idealize.ShloMosaic.Lib.ValueIdx
public import Idealize.ShloMosaic.Lib.ValueLayout
public import Idealize.ShloMosaic.Lib.IdealHost
public import Idealize.ShloMosaic.PureOps.Ideal.Laws

@[expose] public section

noncomputable section

namespace Cert.Proof.RefOps

open Idealize.ShloMosaic Idealize.ShloMosaic.ValueIdx Idealize.ShloMosaic.Routing

/-- The index a row's update reads: the row's own, when every update axis but the row is a window's. -/
theorem siIdx_row {G N C : ℕ} (d : ScatterDims (⟨2, ![G, C]⟩ : Shape) ⟨2, ![N, 1]⟩ ⟨2, ![N, C]⟩) (huw : d.updateWindowDims = [1])
    (hivd : d.indexVectorDim = 1) (i : Fin N) (k : Fin C) (q : Fin d.scatterDimsToOperandDims.length) (hq : q.val = 0) :
    d.siIdx (ix2 i k) q = ix2 i (0 : Fin 1) := by
  funext b
  apply Fin.ext
  match b with
  | ⟨0, _⟩ =>
    unfold ScatterDims.siIdx
    rw [dif_neg (by rw [hivd]; exact Nat.zero_ne_one)]
    unfold ScatterDims.siCoord
    simp only [Fin.val_cast]
    have hus : d.uScatter = [0] := by
      show (⟨2, ![N, C]⟩ : Shape).kept d.updateWindowDims = _
      rw [huw]; rfl
    have e : ∀ X : Fin 2, X = 0 → ((ix2 i k : (⟨2, ![N, C]⟩ : Shape).Idx) X).val = i.val := fun X h => by subst h; rfl
    refine e _ (List.mem_singleton.1 ?_)
    rw [← hus]
    exact List.getElem_mem _
  | ⟨1, _⟩ =>
    unfold ScatterDims.siIdx
    rw [dif_pos (by rw [hivd])]
    exact hq

/-- A row's update lands at a segment's row exactly when its id is the segment, column by column. -/
theorem lands_wide {G N C : ℕ} (d : ScatterDims (⟨2, ![G, C]⟩ : Shape) ⟨2, ![N, 1]⟩ ⟨2, ![N, C]⟩) (huw : d.updateWindowDims = [1])
    (hiw : d.insertedWindowDims = [0]) (hsd : d.scatterDimsToOperandDims = [0]) (hivd : d.indexVectorDim = 1)
    (idx : IVec (⟨2, ![N, 1]⟩ : Shape) 32) (i : Fin N) (k : Fin C) (g : Fin G) (c : Fin C) :
    d.resultIdx? (ix2 i k) idx = some (ix2 g c) ↔ (idx (ix2 i (0 : Fin 1))).toInt = (g.val : ℤ) ∧ k = c := by
  have hm : (0 : Fin 2) ∈ d.scatterDimsToOperandDims := by rw [hsd]; exact List.mem_singleton.2 rfl
  have hkept : d.sKept = [1] := by
    show (⟨2, ![G, C]⟩ : Shape).kept d.insertedWindowDims = _
    rw [hiw]; rfl
  have hwin0 : d.window (ix2 i k) 0 = 0 := by
    unfold ScatterDims.window
    rw [dif_neg fun h => by rw [hkept] at h; exact absurd (List.mem_singleton.1 h) (by decide : (0 : Fin 2) ≠ 1)]
  have hwin1 : d.window (ix2 i k) 1 = k.val := by
    unfold ScatterDims.window
    rw [dif_pos (by rw [hkept]; exact List.mem_singleton.2 rfl)]
    have e : ∀ X : Fin 2, X = 1 → ((ix2 i k : (⟨2, ![N, C]⟩ : Shape).Idx) X).val = k.val := fun X h => by subst h; rfl
    have hmem : ∀ y ∈ d.updateWindowDims, y = 1 := by rw [huw]; intro y hy; exact List.mem_singleton.1 hy
    exact e _ (hmem _ (List.getElem_mem _))
  have hstart0 : d.start (ix2 i k) idx 0 = (idx (ix2 i (0 : Fin 1))).toInt := by
    unfold ScatterDims.start
    rw [dif_pos hm, siIdx_row d huw hivd i k _ (by show List.idxOf (0 : Fin 2) d.scatterDimsToOperandDims = 0; rw [hsd]; simp)]
  have hstart1 : d.start (ix2 i k) idx 1 = 0 := by
    unfold ScatterDims.start
    rw [dif_neg fun h => by rw [hsd] at h; exact absurd (List.mem_singleton.1 h) (by decide : (1 : Fin 2) ≠ 0)]
  rw [resultIdx?_ix2, hstart0, hwin0, hstart1, hwin1, Fin.ext_iff]
  omega

/-- One number's update lands at a segment exactly when its id is the segment. -/
theorem lands_one {G N : ℕ} (d : ScatterDims (⟨1, ![G]⟩ : Shape) ⟨2, ![N, 1]⟩ ⟨1, ![N]⟩)
    (hiw : d.insertedWindowDims = [0]) (hsd : d.scatterDimsToOperandDims = [0]) (hivd : d.indexVectorDim = 1)
    (idx : IVec (⟨2, ![N, 1]⟩ : Shape) 32) (i : Fin N) (g : Fin G) :
    d.resultIdx? (ix1 i) idx = some (ix1 g) ↔ (idx (ix2 i (0 : Fin 1))).toInt = (g.val : ℤ) := by
  have hm : (0 : Fin 1) ∈ d.scatterDimsToOperandDims := by rw [hsd]; exact List.mem_singleton.2 rfl
  have hkept : d.sKept = [] := by
    show (⟨1, ![G]⟩ : Shape).kept d.insertedWindowDims = _
    rw [hiw]; rfl
  have hwin : d.window (ix1 i) 0 = 0 := by
    unfold ScatterDims.window
    rw [dif_neg fun h => by rw [hkept] at h; cases h]
  have hstart : d.start (ix1 i) idx 0 = (idx (ix2 i (0 : Fin 1))).toInt := by
    unfold ScatterDims.start
    rw [dif_pos hm]
    refine congrArg (fun z => (idx z).toInt) (funext fun b => Fin.ext ?_)
    match b with
    | ⟨0, _⟩ =>
      unfold ScatterDims.siIdx
      rw [dif_neg (by rw [hivd]; exact Nat.zero_ne_one)]
      unfold ScatterDims.siCoord
      simp only [Fin.val_cast]
      have e : ∀ X : Fin 1, ((ix1 i : (⟨1, ![N]⟩ : Shape).Idx) X).val = i.val := fun X => by
        obtain rfl : X = 0 := Subsingleton.elim _ _
        rfl
      exact e _
    | ⟨1, _⟩ =>
      unfold ScatterDims.siIdx
      rw [dif_pos (by rw [hivd])]
      show List.idxOf (0 : Fin 1) d.scatterDimsToOperandDims = 0
      rw [hsd]; simp
  rw [resultIdx?_ix1, hstart, hwin]
  omega

/-- A scatter of rows adds, at a segment's row, the rows of that segment. -/
theorem scatter_wide {G N C : ℕ} (d : ScatterDims (⟨2, ![G, C]⟩ : Shape) ⟨2, ![N, 1]⟩ ⟨2, ![N, C]⟩) (huw : d.updateWindowDims = [1])
    (hiw : d.insertedWindowDims = [0]) (hsd : d.scatterDimsToOperandDims = [0]) (hivd : d.indexVectorDim = 1)
    (x : FVec Ideal (⟨2, ![G, C]⟩ : Shape) .f32) (idx : IVec (⟨2, ![N, 1]⟩ : Shape) 32) (upd : FVec Ideal (⟨2, ![N, C]⟩ : Shape) .f32)
    (g : Fin G) (c : Fin C) :
    Host.scatterAdd d x idx upd (ix2 g c) =
      (x (ix2 g c) : EReal) + ∑ n ∈ Finset.univ.filter (fun n : Fin N => (idx (ix2 n (0 : Fin 1))).toInt = (g.val : ℤ)), (upd (ix2 n c) : EReal) := by
  show Ideal.hostScatterAdd d x idx upd (ix2 g c) = _
  unfold Ideal.hostScatterAdd
  congr 1
  rw [← Finset.sum_image (s := Finset.univ.filter (fun n : Fin N => (idx (ix2 n (0 : Fin 1))).toInt = (g.val : ℤ)))
    (g := fun n => (ix2 n c : (⟨2, ![N, C]⟩ : Shape).Idx)) (f := upd) (fun a _ b _ h => congrFun h 0)]
  refine Finset.sum_congr (Finset.ext fun j => ?_) fun _ _ => rfl
  obtain ⟨i, k, rfl⟩ : ∃ (i : Fin N) (k : Fin C), j = ix2 i k := ⟨j 0, j 1, eq_ix2 j⟩
  simp only [Finset.mem_filter, Finset.mem_univ, true_and, Finset.mem_image]
  rw [lands_wide d huw hiw hsd hivd idx i k g c]
  constructor
  · rintro ⟨h, rfl⟩; exact ⟨i, h, rfl⟩
  · rintro ⟨n, h, e⟩
    have e0 : n = i := congrFun e 0
    have e1 : c = k := congrFun e 1
    subst e0; subst e1
    exact ⟨h, rfl⟩

/-- A scatter of numbers adds, at a segment, the numbers of that segment. -/
theorem scatter_one {G N : ℕ} (d : ScatterDims (⟨1, ![G]⟩ : Shape) ⟨2, ![N, 1]⟩ ⟨1, ![N]⟩)
    (hiw : d.insertedWindowDims = [0]) (hsd : d.scatterDimsToOperandDims = [0]) (hivd : d.indexVectorDim = 1)
    (x : FVec Ideal (⟨1, ![G]⟩ : Shape) .f32) (idx : IVec (⟨2, ![N, 1]⟩ : Shape) 32) (upd : FVec Ideal (⟨1, ![N]⟩ : Shape) .f32)
    (g : Fin G) :
    Host.scatterAdd d x idx upd (ix1 g) =
      (x (ix1 g) : EReal) + ∑ n ∈ Finset.univ.filter (fun n : Fin N => (idx (ix2 n (0 : Fin 1))).toInt = (g.val : ℤ)), (upd (ix1 n) : EReal) := by
  show Ideal.hostScatterAdd d x idx upd (ix1 g) = _
  unfold Ideal.hostScatterAdd
  congr 1
  rw [← Finset.sum_image (s := Finset.univ.filter (fun n : Fin N => (idx (ix2 n (0 : Fin 1))).toInt = (g.val : ℤ)))
    (g := fun n => (ix1 n : (⟨1, ![N]⟩ : Shape).Idx)) (f := upd) (fun a _ b _ h => congrFun h 0)]
  refine Finset.sum_congr (Finset.ext fun j => ?_) fun _ _ => rfl
  obtain ⟨i, rfl⟩ : ∃ (i : Fin N), j = ix1 i := ⟨j 0, eq_ix1 j⟩
  simp only [Finset.mem_filter, Finset.mem_univ, true_and, Finset.mem_image]
  rw [lands_one d hiw hsd hivd idx i g]
  constructor
  · intro h; exact ⟨i, h, rfl⟩
  · rintro ⟨n, h, e⟩
    have e0 : n = i := congrFun e 0
    subst e0
    exact h

/-- The look-up of a number by an in-range id. -/
theorem gather_one {α : Type} {G N : ℕ} (d : GatherDims (⟨1, ![G]⟩ : Shape) ⟨2, ![N, 1]⟩ ⟨1, ![N]⟩)
    (hcoll : d.collapsedSliceDims = [0]) (hob : d.operandBatchingDims = []) (hsim : d.startIndexMap = [0]) (hivd : d.indexVectorDim = 1)
    (x : (⟨1, ![G]⟩ : Shape).Idx → α) (idx : IVec (⟨2, ![N, 1]⟩ : Shape) 32) (n : Fin N) (g : Fin G)
    (h : (idx (ix2 n (0 : Fin 1))).toInt = (g.val : ℤ)) : Host.gather d x idx (ix1 n) = x (ix1 g) := by
  have hg := g.isLt
  have e := StableHlo.Predicate.gather_take d hcoll hob hsim hivd x idx n (by omega)
  have e1 : (Shape.Idx.ofFin n : (⟨1, ![N]⟩ : Shape).Idx) = ix1 n := funext fun a => by
    match a with
    | ⟨0, _⟩ => rfl
  have e2 : (StableHlo.Predicate.ixP n : (⟨2, ![N, 1]⟩ : Shape).Idx) = ix2 n (0 : Fin 1) := funext fun a => by
    match a with
    | ⟨0, _⟩ => rfl
    | ⟨1, _⟩ => rfl
  rw [e1] at e
  refine e.trans (congrArg x (funext fun a => Fin.ext ?_))
  match a with
  | ⟨0, _⟩ =>
    show min (idx (StableHlo.Predicate.ixP n)).toInt.toNat (G - 1) = g.val
    rw [e2, h]
    omega

/-- The index a maximum along the middle axis reads. -/
theorem lift_mid {G N C : ℕ} (h : Shape.Reduces (⟨3, ![G, N, C]⟩ : Shape) [1] ⟨2, ![G, C]⟩) (g : Fin G) (c : Fin C) (n : Fin N) :
    h.lift (ix2 g c) n = ix3 g n c := by
  funext d
  apply Fin.ext
  match d with
  | ⟨0, _⟩ => rfl
  | ⟨1, _⟩ => rfl
  | ⟨2, _⟩ => rfl

/-- The maximum along the middle axis from -∞. -/
theorem reduce_max_mid {G N C : ℕ} (x : FVec Ideal (⟨3, ![G, N, C]⟩ : Shape) .f32) (init : FVec Ideal (⟨0, ![]⟩ : Shape) .f32)
    (h' : (⟨3, ![G, N, C]⟩ : Shape).ReducesTo [1] ⟨2, ![G, C]⟩) (h : (⟨3, ![G, N, C]⟩ : Shape).Reduces [1] ⟨2, ![G, C]⟩)
    (hu : 0 < (⟨0, ![]⟩ : Shape).numel) (hi : ∀ i, init i = (⊥ : EReal)) (g : Fin G) (c : Fin C) :
    Host.reduce (FloatOps.maximumf (F := Ideal)) x init h' hu (ix2 g c) = (Finset.univ : Finset (Fin N)).fold max ⊥ fun n => x (ix3 g n c) := by
  refine (Host.reduce_eq_fold_single (FloatOps.maximumf (F := Ideal) (φ := .f32)) x init h' h hu (ix2 g c)).trans ?_
  rw [hi]
  exact congrArg (fun f => Finset.fold max ⊥ f Finset.univ) (funext fun n : Fin N => congrArg x (lift_mid h g c n))

end Cert.Proof.RefOps

end
-- ==== Proof.Ref.lean ====
/-
  The reference's parts read element by element over the extended reals, and its result as the specification's.
-/
module

public import proofs.«01_k».proof.Proof.RefTerm
public import proofs.«01_k».proof.Proof.RefOps
public import proofs.«01_k».proof.Proof.Spec
public import Idealize.ShloMosaic.Lib.StackMember
public import Idealize.ShloMosaic.Lib.ValueLayoutCasts

@[expose] public section

noncomputable section

namespace Cert.Proof.RefTerm

open Cert.ReferenceIdeal Cert.ReferenceIdeal.Gen Cert.Proof.Math
open Idealize.ShloMosaic Idealize.ShloMosaic.TcCoe Idealize.ShloMosaic.ValueIdx

variable (a0 : FVec Ideal S100000x128 .f32) (a2 : IVec S100000 32) (a3 : FVec Ideal S128x128 .f32) (a4 : FVec Ideal S128 .f32)
  (a5 : FVec Ideal S128x1 .f32) (a6 : FVec Ideal S1 .f32) (a7 : FVec Ideal S512x128 .f32) (a8 : FVec Ideal S128 .f32)

/-- The pattern of -∞. -/
theorem bot_pat : Ideal.ofBits .f32 0xFF800000#32 = (⊥ : EReal) := by simp [Ideal.ofBits, Ideal.ieee]
/-- The pattern of +∞. -/
theorem top_pat : Ideal.ofBits .f32 0x7F800000#32 = (⊤ : EReal) := by simp [Ideal.ofBits, Ideal.ieee]

/-- A column from a vector. -/
theorem col_at {α : Type} {n : ℕ} (h : (⟨1, ![n]⟩ : Shape).BroadcastsInDim ⟨2, ![n, 1]⟩ ![0]) (x : (⟨1, ![n]⟩ : Shape).Idx → α)
    (i : Fin n) : broadcastInDim ⟨2, ![n, 1]⟩ ![0] h x (ix2 i (0 : Fin 1)) = x (ix1 i) := by
  refine broadcastInDim_apply _ _ _ _ _ fun a => ?_
  match a with
  | ⟨0, _⟩ =>
    show i.val = if n = 1 then 0 else i.val
    split
    · have := i.isLt; omega
    · rfl

/-- A row from a vector. -/
theorem row_at {α : Type} {n : ℕ} (h : (⟨1, ![n]⟩ : Shape).BroadcastsInDim ⟨2, ![1, n]⟩ ![1]) (x : (⟨1, ![n]⟩ : Shape).Idx → α)
    (i : Fin n) : broadcastInDim ⟨2, ![1, n]⟩ ![1] h x (ix2 (0 : Fin 1) i) = x (ix1 i) := by
  refine broadcastInDim_apply _ _ _ _ _ fun a => ?_
  match a with
  | ⟨0, _⟩ =>
    show i.val = if n = 1 then 0 else i.val
    split
    · have := i.isLt; omega
    · rfl

/-- A row repeated. -/
theorem rows_at {α : Type} {a b : ℕ} (h : (⟨2, ![1, b]⟩ : Shape).BroadcastsInDim ⟨2, ![a, b]⟩ ![0, 1]) (x : (⟨2, ![1, b]⟩ : Shape).Idx → α)
    (i : Fin a) (j : Fin b) : broadcastInDim ⟨2, ![a, b]⟩ ![0, 1] h x (ix2 i j) = x (ix2 (0 : Fin 1) j) := by
  refine broadcastInDim_apply _ _ _ _ _ fun d => ?_
  match d with
  | ⟨0, _⟩ => rfl
  | ⟨1, _⟩ =>
    show j.val = if b = 1 then 0 else j.val
    split
    · have := j.isLt; omega
    · rfl

/-- A column repeated. -/
theorem cols_at {α : Type} {a b : ℕ} (h : (⟨2, ![a, 1]⟩ : Shape).BroadcastsInDim ⟨2, ![a, b]⟩ ![0, 1]) (x : (⟨2, ![a, 1]⟩ : Shape).Idx → α)
    (i : Fin a) (j : Fin b) : broadcastInDim ⟨2, ![a, b]⟩ ![0, 1] h x (ix2 i j) = x (ix2 i (0 : Fin 1)) := by
  refine broadcastInDim_apply _ _ _ _ _ fun d => ?_
  match d with
  | ⟨0, _⟩ =>
    show i.val = if a = 1 then 0 else i.val
    split
    · have := i.isLt; omega
    · rfl
  | ⟨1, _⟩ => rfl

/-- A matrix under a new unit axis at the end. -/
theorem tail_at {α : Type} {a b : ℕ} (h : (⟨2, ![a, b]⟩ : Shape).BroadcastsInDim ⟨3, ![a, b, 1]⟩ ![0, 1]) (x : (⟨2, ![a, b]⟩ : Shape).Idx → α)
    (i : Fin a) (j : Fin b) : broadcastInDim ⟨3, ![a, b, 1]⟩ ![0, 1] h x (ix3 i j (0 : Fin 1)) = x (ix2 i j) := by
  refine broadcastInDim_apply _ _ _ _ _ fun d => ?_
  match d with
  | ⟨0, _⟩ =>
    show i.val = if a = 1 then 0 else i.val
    split
    · have := i.isLt; omega
    · rfl
  | ⟨1, _⟩ =>
    show j.val = if b = 1 then 0 else j.val
    split
    · have := j.isLt; omega
    · rfl

/-- A matrix under a new unit axis in front. -/
theorem head_at {α : Type} {a b : ℕ} (h : (⟨2, ![a, b]⟩ : Shape).BroadcastsInDim ⟨3, ![1, a, b]⟩ ![1, 2]) (x : (⟨2, ![a, b]⟩ : Shape).Idx → α)
    (i : Fin a) (j : Fin b) : broadcastInDim ⟨3, ![1, a, b]⟩ ![1, 2] h x (ix3 (0 : Fin 1) i j) = x (ix2 i j) := by
  refine broadcastInDim_apply _ _ _ _ _ fun d => ?_
  match d with
  | ⟨0, _⟩ =>
    show i.val = if a = 1 then 0 else i.val
    split
    · have := i.isLt; omega
    · rfl
  | ⟨1, _⟩ =>
    show j.val = if b = 1 then 0 else j.val
    split
    · have := j.isLt; omega
    · rfl

/-- A stack repeated along its first axis. -/
theorem stack_at {α : Type} {a b c : ℕ} (h : (⟨3, ![1, b, c]⟩ : Shape).BroadcastsInDim ⟨3, ![a, b, c]⟩ ![0, 1, 2]) (x : (⟨3, ![1, b, c]⟩ : Shape).Idx → α)
    (i : Fin a) (j : Fin b) (k : Fin c) : broadcastInDim ⟨3, ![a, b, c]⟩ ![0, 1, 2] h x (ix3 i j k) = x (ix3 (0 : Fin 1) j k) := by
  refine broadcastInDim_apply _ _ _ _ _ fun d => ?_
  match d with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A stack repeated along its last axis. -/
theorem deep_at {α : Type} {a b c : ℕ} (h : (⟨3, ![a, b, 1]⟩ : Shape).BroadcastsInDim ⟨3, ![a, b, c]⟩ ![0, 1, 2]) (x : (⟨3, ![a, b, 1]⟩ : Shape).Idx → α)
    (i : Fin a) (j : Fin b) (k : Fin c) : broadcastInDim ⟨3, ![a, b, c]⟩ ![0, 1, 2] h x (ix3 i j k) = x (ix3 i j (0 : Fin 1)) := by
  refine broadcastInDim_apply _ _ _ _ _ fun d => ?_
  match d with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The id column's element is the row's id. -/
theorem ids_at (n : Fin 100000) : ids a2 (ix2 n (0 : Fin 1)) = a2 (ix1 n) := col_at _ a2 n

/-- A small number's word equals an id exactly when the id is the number. -/
theorem word_eq (g : Fin 1000) (b : BitVec 32) : BitVec.ofNat 32 g.val = b ↔ b.toInt = (g.val : ℤ) := by
  have hg := g.isLt
  have e : (BitVec.ofNat 32 g.val).toInt = (g.val : ℤ) := StableHlo.Predicate.toInt_ofNat_small _ (by omega)
  exact ⟨fun h => by rw [← h]; exact e, fun h => BitVec.eq_of_toInt_eq (e.trans h.symm)⟩

/-- The mask compares a segment's number with a row's id. -/
theorem mask_at (g : Fin 1000) (n : Fin 100000) :
    mask a2 (ix3 g n (0 : Fin 1)) = IntOp.cmpi .eq (BitVec.ofNat 32 g.val) (a2 (ix1 n)) := by
  unfold mask
  rw [tail_at]
  show IntOp.cmpi .eq _ _ = _
  rw [cols_at, col_at, rows_at, row_at]
  rfl

/-- Selecting by the mask keeps a segment's rows. -/
theorem pick (g : Fin 1000) (b : BitVec 32) (x y : EReal) :
    Scalar.select (IntOp.cmpi .eq (BitVec.ofNat 32 g.val) b) x y = if b.toInt = (g.val : ℤ) then x else y := by
  by_cases h : b.toInt = (g.val : ℤ)
  · have e := (word_eq g b).2 h
    rw [if_pos h, show IntOp.cmpi .eq (BitVec.ofNat 32 g.val) b = 1#1 by simp [IntOp.cmpi, e]]; rfl
  · have e : ¬BitVec.ofNat 32 g.val = b := fun e => h ((word_eq g b).1 e)
    have e' : IntOp.cmpi .eq (BitVec.ofNat 32 g.val) b = 0#1 := by
      show BitVec.ofBool (BitVec.ofNat 32 g.val == b) = 0#1
      rw [beq_false_of_ne e]; rfl
    rw [if_neg h, e']; rfl

/-- A segment's maximum, before the guard. -/
theorem segMax_at (g : Fin 1000) (c : Fin 128) : segMax a0 a2 (ix2 g c) = (Spec.seg a2 g.val).sup fun n => (a0 (ix2 n c) : EReal) := by
  unfold segMax
  refine (RefOps.reduce_max_mid _ _ _ (by decide) _ (fun _ => bot_pat) g c).trans ?_
  refine Eq.trans ?_ (fold_max_mask (fun n : Fin 100000 => (a2 (ix1 n)).toInt = (g.val : ℤ)) fun n => (a0 (ix2 n c) : EReal))
  refine congrArg (fun f => Finset.fold max ⊥ f Finset.univ) (funext fun n => ?_)
  rw [select_apply, deep_at, mask_at, stack_at, head_at]
  refine (pick g _ _ _).trans ?_
  show (if _ then _ else Ideal.ofBits .f32 0xFF800000#32) = _
  rw [bot_pat]

/-- A segment's largest score, before the guard. -/
theorem segTop_at (sc : FVec Ideal S100000 .f32) (g : Fin 1000) : segTop a2 sc (ix1 g) = (Spec.seg a2 g.val).sup fun n => (sc (ix1 n) : EReal) := by
  unfold segTop
  refine (shapeCast_apply _ _ _ (ix2 g (0 : Fin 1)) (by rw [Shape.rowMajor_val_two, Shape.rowMajor_val_one]; show g.val * 1 + 0 = g.val; omega)).trans ?_
  refine (RefOps.reduce_max_mid _ _ _ (by decide) _ (fun _ => bot_pat) g (0 : Fin 1)).trans ?_
  refine Eq.trans ?_ (fold_max_mask (fun n : Fin 100000 => (a2 (ix1 n)).toInt = (g.val : ℤ)) fun n => (sc (ix1 n) : EReal))
  refine congrArg (fun f => Finset.fold max ⊥ f Finset.univ) (funext fun n => ?_)
  rw [select_apply, mask_at, stack_at, head_at, col_at]
  refine (pick g _ _ _).trans ?_
  show (if _ then _ else Ideal.ofBits .f32 0xFF800000#32) = _
  rw [bot_pat]

/-- The guard against infinities, on a maximum that is -∞ or real. -/
theorem guard_eq (M : EReal) (h : M = ⊥ ∨ ∃ r : ℝ, M = r) :
    Scalar.select (FloatOps.cmpf (F := Ideal) (φ := .f32) .olt (FloatOps.hostAbsf (F := Ideal) (φ := .f32) M) (Ideal.ofBits .f32 0x7F800000#32)) M
      (Ideal.ofBits .f32 0x00000000#32) = if M = ⊥ then 0 else M := by
  rw [top_pat, Ideal.ofBits_zero_f32]
  show Scalar.select (Ideal.cmp .olt (max M (-M)) ⊤) M 0 = _
  rcases h with rfl | ⟨r, rfl⟩
  · rw [if_pos rfl, show Ideal.cmp .olt (max (⊥ : EReal) (-⊥)) ⊤ = 0#1 by simp [Ideal.cmp]]; rfl
  · have hlt : max (r : EReal) (-(r : EReal)) < ⊤ := max_lt (EReal.coe_lt_top r) (by rw [← EReal.coe_neg]; exact EReal.coe_lt_top _)
    rw [if_neg (EReal.coe_ne_bot r), show Ideal.cmp .olt (max (r : EReal) (-(r : EReal))) ⊤ = 1#1 by simp only [Ideal.cmp, hlt, decide_true]; rfl]; rfl

/-- A maximum over reals is -∞ or real. -/
theorem sup_cases {ι : Type} (P : Finset ι) (c : ι → ℝ) :
    P.sup (fun n => (c n : EReal)) = ⊥ ∨ ∃ r : ℝ, P.sup (fun n => (c n : EReal)) = r := by
  rcases P.eq_empty_or_nonempty with rfl | h
  · exact .inl rfl
  · exact .inr (sup_real P h c)

/-- A segment's sum of an array's rows. -/
theorem segSum_at (x : FVec Ideal S100000x128 .f32) (g : Fin 1000) (c : Fin 128) :
    segSum a2 x (ix2 g c) = ∑ n ∈ Spec.seg a2 g.val, (x (ix2 n c) : EReal) := by
  unfold segSum
  refine (RefOps.scatter_wide _ rfl rfl rfl rfl _ _ _ g c).trans ?_
  show Ideal.ofBits .f32 0x00000000#32 + _ = _
  rw [Ideal.ofBits_zero_f32, zero_add]
  unfold Spec.seg
  simp only [ids_at]

/-- The printed choice on `h ≥ 0` is the leaky rectifier. -/
theorem leaky_ge (h : EReal) :
    Scalar.select (FloatOps.cmpf (F := Ideal) (φ := .f32) .oge h (Ideal.ofBits .f32 0x00000000#32)) h (Ideal.ofBits .f32 0x3C23D70A#32 * h) = Spec.leaky h := by
  unfold Spec.leaky Spec.slope
  rw [Ideal.ofBits_zero_f32]
  show Scalar.select (Ideal.cmp .oge h 0) _ _ = _
  rcases lt_trichotomy h 0 with hh | rfl | hh
  · rw [if_neg (not_lt.2 hh.le), show Ideal.cmp .oge h 0 = 0#1 by simp [Ideal.cmp, not_le.2 hh]]; rfl
  · rw [if_neg (lt_irrefl _), mul_zero]; exact ite_self _
  · rw [if_pos hh, show Ideal.cmp .oge h 0 = 1#1 by simp [Ideal.cmp, hh.le]]; rfl

/-- The first layer, element by element. -/
theorem hid_at (n : Fin 100000) (k : Fin 128) :
    hid a0 a3 a4 (ix2 n k) = (∑ i, (a0 (ix2 n i) : EReal) * a3 (ix2 i k)) + a4 (ix1 k) := by
  unfold hid
  rw [addf_apply, rows_at, row_at]
  exact congrArg (fun z : EReal => z + a4 (ix1 k)) (StackMember.dotGeneral_plain_apply none a0 a3 n k)

/-- A row's score is the specification's. -/
theorem scores_at (n : Fin 100000) : scores a0 a3 a4 a5 a6 (ix1 n) = Spec.rowScore a0 a3 a4 a5 a6 n := by
  unfold scores Spec.rowScore Spec.score
  refine (shapeCast_apply _ _ _ (ix2 n (0 : Fin 1)) (by rw [Shape.rowMajor_val_two, Shape.rowMajor_val_one]; show n.val * 1 + 0 = n.val; omega)).trans ?_
  rw [addf_apply, rows_at, row_at]
  refine congrArg (fun z : EReal => z + a6 (ix1 (0 : Fin 1))) ?_
  refine (StackMember.dotGeneral_plain_apply none _ a5 n (0 : Fin 1)).trans ?_
  refine Finset.sum_congr rfl fun k _ => congrArg (fun z : EReal => z * a5 (ix2 k (0 : Fin 1))) ?_
  rw [select_apply, cmpf_apply, mulf_apply, hid_at]
  exact leaky_ge _

end Cert.Proof.RefTerm

end
-- ==== Proof.RefValue.lean ====
/-
  The reference's softmax weights and four pieces read element by element over the extended reals, and its result as the
  specification's.
-/
module

public import proofs.«01_k».proof.Proof.Ref

@[expose] public section

noncomputable section

namespace Cert.Proof.RefTerm

open Cert.ReferenceIdeal Cert.ReferenceIdeal.Gen Cert.Proof.Math
open Idealize.ShloMosaic Idealize.ShloMosaic.TcCoe Idealize.ShloMosaic.ValueIdx

variable (a0 : FVec Ideal S100000x128 .f32) (a2 : IVec S100000 32) (a3 : FVec Ideal S128x128 .f32) (a4 : FVec Ideal S128 .f32)
  (a5 : FVec Ideal S128x1 .f32) (a6 : FVec Ideal S1 .f32) (a7 : FVec Ideal S512x128 .f32) (a8 : FVec Ideal S128 .f32)

/-- A constant everywhere. -/
theorem const_at {s : Shape} (h : S_.BroadcastsInDim s ![]) (w : BitVec 32) (i : s.Idx) :
    broadcastInDim s ![] h (constant (F := Ideal) S_ .f32 w) i = Ideal.ofBits .f32 w := rfl

/-- The quotient, element by element. -/
theorem div_at {s : Shape} (x y : FVec Ideal s .f32) (i : s.Idx) : Host.divf x y i = Ideal.div (x i) (y i) := rfl

/-- The exponential of a difference, element by element. -/
theorem exp_at {s : Shape} (x y : FVec Ideal s .f32) (i : s.Idx) : Host.exp (subf x y) i = Ideal.exp ((x i : EReal) - y i) := rfl

/-- The larger of two, element by element. -/
theorem max_at {s : Shape} (x y : FVec Ideal s .f32) (i : s.Idx) : maximumf x y i = max (x i : EReal) (y i) := rfl

/-- A guarded maximum: zero where the maximum is -∞. -/
theorem guard_at {s : Shape} (h h' : S_.BroadcastsInDim s ![]) (x : FVec Ideal s .f32) (i : s.Idx) (M : EReal) (hx : x i = M)
    (hM : M = ⊥ ∨ ∃ r : ℝ, M = r) :
    select (cmpf .olt (Host.absf x) (broadcastInDim s ![] h (constant S_ .f32 0x7F800000#32))) x
      (broadcastInDim s ![] h' (id (constant S_ .f32 0x00000000#32))) i = if M = ⊥ then 0 else M := by
  subst hx
  exact guard_eq (x i) hM

section
variable (hr : ∀ n, 0 ≤ (a2 n).toInt ∧ (a2 n).toInt < 1000)

include hr in
/-- An id in range is looked up as it is. -/
theorem look_at (n : Fin 100000) : look a2 (ix2 n (0 : Fin 1)) = a2 (ix1 n) := by
  unfold look
  rw [col_at, select_apply]
  have h : IntOp.cmpi .slt (a2 (ix1 n)) 0#32 = 0#1 := by
    have h0 := (hr (ix1 n)).1
    show BitVec.ofBool (BitVec.slt (a2 (ix1 n)) 0#32) = 0#1
    have : BitVec.slt (a2 (ix1 n)) 0#32 = false := by
      rw [BitVec.slt_eq_decide, decide_eq_false_iff_not]
      show ¬(a2 (ix1 n)).toInt < (0#32 : BitVec 32).toInt
      have e : (0#32 : BitVec 32).toInt = 0 := by decide
      omega
    rw [this]; rfl
  show Scalar.select (IntOp.cmpi .slt (a2 (ix1 n)) 0#32) _ _ = _
  rw [h]; rfl

variable (sc : FVec Ideal S100000 .f32) (C : Fin 100000 → ℝ) (hC : ∀ n, sc (ix1 n) = (C n : EReal))

/-- A segment's rows are those that carry its id. -/
theorem mem_seg (s : ℕ) (n : Fin 100000) : n ∈ Spec.seg a2 s ↔ (a2 (ix1 n)).toInt = (s : ℤ) := by
  unfold Spec.seg; rw [Finset.mem_filter]; exact and_iff_right (Finset.mem_univ _)

include hC in
/-- The largest score of a segment with a row. -/
theorem tops_at (g : Fin 1000) (n : Fin 100000) (hn : n ∈ Spec.seg a2 g.val) :
    tops a2 sc (ix1 g) = (Spec.seg a2 g.val).sup fun n => (C n : EReal) := by
  unfold tops
  have e : segTop a2 sc (ix1 g) = (Spec.seg a2 g.val).sup fun n => (C n : EReal) := by
    rw [segTop_at]; simp only [hC]
  refine (guard_at _ _ (segTop a2 sc) (ix1 g) _ e (sup_cases _ C)).trans ?_
  obtain ⟨r, hr'⟩ := sup_real (Spec.seg a2 g.val) ⟨n, hn⟩ C
  rw [hr', if_neg (EReal.coe_ne_bot r)]

include hr hC in
/-- A row's exponential, from its segment's largest score. -/
theorem exps_at (g : Fin 1000) (n : Fin 100000) (hn : n ∈ Spec.seg a2 g.val) :
    exps a2 sc (ix1 n) = Ideal.exp ((C n : EReal) - (Spec.seg a2 g.val).sup fun n => (C n : EReal)) := by
  unfold exps
  have e := RefOps.gather_one gather_S1000_S100000x1_S100000_n_0_n_n_0_1_1 rfl rfl rfl rfl (tops a2 sc) (look a2) n g
    ((congrArg BitVec.toInt (look_at a2 hr n)).trans ((mem_seg a2 g.val n).1 hn))
  rw [exp_at, e, tops_at a2 sc C hC g n hn, hC]

include hr hC in
/-- A segment's denominator. -/
theorem dens_at (g : Fin 1000) : dens a2 sc (ix1 g) = wsum (Spec.seg a2 g.val) (fun n => (C n : EReal)) fun _ => 1 := by
  unfold dens
  refine (RefOps.scatter_one _ rfl rfl rfl _ _ _ g).trans ?_
  rw [const_at, Ideal.ofBits_zero_f32, zero_add, wsum_one]
  simp only [ids_at]
  exact Finset.sum_congr rfl fun n hn => exps_at a2 hr sc C hC g n hn

include hr hC in
/-- A row's weight. -/
theorem weights_at (g : Fin 1000) (n : Fin 100000) (hn : n ∈ Spec.seg a2 g.val) :
    weights a2 sc (ix1 n) = Ideal.div (Ideal.exp ((C n : EReal) - (Spec.seg a2 g.val).sup fun n => (C n : EReal)))
      (wsum (Spec.seg a2 g.val) (fun n => (C n : EReal)) (fun _ => 1) + Spec.tiny) := by
  unfold weights
  have e := RefOps.gather_one gather_S1000_S100000x1_S100000_n_0_n_n_0_1_1 rfl rfl rfl rfl (dens a2 sc) (look a2) n g
    ((congrArg BitVec.toInt (look_at a2 hr n)).trans ((mem_seg a2 g.val n).1 hn))
  unfold Spec.tiny
  rw [div_at, addf_apply, const_at, e, dens_at a2 hr sc C hC g, exps_at a2 hr sc C hC g n hn]

end

section
variable (hr : ∀ n, 0 ≤ (a2 n).toInt ∧ (a2 n).toInt < 1000) (X : Fin 100000 → Fin 128 → ℝ) (hX : ∀ n k, a0 (ix2 n k) = (X n k : EReal))
  (C : Fin 100000 → ℝ) (hC : ∀ n, Spec.rowScore a0 a3 a4 a5 a6 n = (C n : EReal))

include hX in
/-- The maxima are the specification's. -/
theorem maxs_eq : maxs a0 a2 = Spec.arr (Spec.maxAt a0 a2) := by
  funext i
  obtain ⟨g, k, rfl⟩ : ∃ (g : Fin 1000) (k : Fin 128), i = ix2 g k := ⟨i 0, i 1, eq_ix2 i⟩
  show _ = Spec.maxAt a0 a2 g k
  unfold maxs Spec.maxAt
  refine guard_at _ _ (segMax a0 a2) (ix2 g k) _ (segMax_at a0 a2 g k) ?_
  simp only [hX]
  exact sup_cases _ fun n => X n k

/-- The sums are the specification's. -/
theorem sums_eq : segSum a2 a0 = Spec.arr (Spec.sumAt a0 a2) := by
  funext i
  obtain ⟨g, k, rfl⟩ : ∃ (g : Fin 1000) (k : Fin 128), i = ix2 g k := ⟨i 0, i 1, eq_ix2 i⟩
  exact segSum_at a2 a0 g k

/-- The means are the specification's. -/
theorem means_eq : means a0 a2 = Spec.arr (Spec.meanAt a0 a2) := by
  funext i
  obtain ⟨g, k, rfl⟩ : ∃ (g : Fin 1000) (k : Fin 128), i = ix2 g k := ⟨i 0, i 1, eq_ix2 i⟩
  show _ = Spec.meanAt a0 a2 g k
  unfold means Spec.meanAt
  rw [div_at, segSum_at, cols_at, max_at, const_at, Ideal.ofBits_one_f32]
  refine congrArg (fun z : EReal => Ideal.div _ (max z 1)) ?_
  refine (RefOps.scatter_wide _ rfl rfl rfl rfl _ _ _ g (0 : Fin 1)).trans ?_
  rw [const_at, Ideal.ofBits_zero_f32, zero_add]
  unfold Spec.seg
  simp only [ids_at]
  refine Finset.sum_congr rfl fun n _ => ?_
  rw [const_at, Ideal.ofBits_one_f32]

include hr hX hC in
/-- The softmax-weighted sums are the specification's. -/
theorem attn_eq : segSum a2 (weighted a0 a2 (scores a0 a3 a4 a5 a6)) = Spec.arr (Spec.attnAt a0 a2 a3 a4 a5 a6) := by
  funext i
  obtain ⟨g, k, rfl⟩ : ∃ (g : Fin 1000) (k : Fin 128), i = ix2 g k := ⟨i 0, i 1, eq_ix2 i⟩
  show _ = Spec.attnAt a0 a2 a3 a4 a5 a6 g k
  have hsc : ∀ n, scores a0 a3 a4 a5 a6 (ix1 n) = (C n : EReal) := fun n => (scores_at a0 a3 a4 a5 a6 n).trans (hC n)
  have hc : Spec.rowScore a0 a3 a4 a5 a6 = fun n => (C n : EReal) := funext hC
  obtain ⟨e, he, ht⟩ := Spec.tiny_real
  rw [segSum_at]
  unfold Spec.attnAt
  rw [hc]
  simp only [hX]
  rw [ht]
  refine Eq.trans ?_ (div_wsum (Spec.seg a2 g.val) C (fun n => X n k) e he)
  refine Finset.sum_congr rfl fun n hn => ?_
  unfold weighted
  rw [mulf_apply, cols_at, col_at, weights_at a2 hr _ C hsc g n hn, hX, ht]

/-- The last layer. -/
theorem last_eq (p q r s : FVec Ideal S1000x128 .f32) : last a7 a8 p q r s = Spec.arr (Spec.outAt a7 a8 p q r s) := by
  funext i
  obtain ⟨g, k, rfl⟩ : ∃ (g : Fin 1000) (k : Fin 128), i = ix2 g k := ⟨i 0, i 1, eq_ix2 i⟩
  show _ = Spec.outAt a7 a8 p q r s g k
  unfold last Spec.outAt Spec.cat4
  rw [addf_apply, rows_at, row_at]
  exact congrArg (fun z : EReal => z + a8 (ix1 k)) (StackMember.dotGeneral_plain_apply none _ a7 g k)

include hr hX hC in
/-- The reference's result is the specification's. -/
theorem result_eq : last a7 a8 (maxs a0 a2) (means a0 a2) (segSum a2 a0) (segSum a2 (weighted a0 a2 (scores a0 a3 a4 a5 a6)))
    = Spec.result a0 a2 a3 a4 a5 a6 a7 a8 := by
  rw [last_eq, maxs_eq a0 a2 X hX, means_eq, sums_eq, attn_eq a0 a2 a3 a4 a5 a6 hr X hX C hC]
  rfl

end

end Cert.Proof.RefTerm

end
-- ==== Proof.Algebraic.lean ====
/-
  The value claim: under the precondition the kernel and the reference both end with the specification's array.
-/
module

public import proofs.«01_k».proof.Proof.Frames
public import proofs.«01_k».proof.Proof.KI.Result
public import proofs.«01_k».proof.Proof.RefValue
public import Idealize.ShloMosaic.Lib.Claim

@[expose] public section

noncomputable section

namespace Cert.Proof

open Idealize.ShloMosaic Idealize.ShloMosaic.TcCoe Idealize.ShloMosaic.ValueIdx Idealize.SL.Sem

/-- Under the precondition every row's score is a real number. -/
theorem rowScore_real {a0 : Spec.Rows} {a2 : Spec.Ids} {a3 : FVec Ideal (⟨2, ![128, 128]⟩ : Shape) .f32}
    {a4 : FVec Ideal (⟨1, ![128]⟩ : Shape) .f32} {a5 : FVec Ideal (⟨2, ![128, 1]⟩ : Shape) .f32} {a6 : FVec Ideal (⟨1, ![1]⟩ : Shape) .f32}
    (h : SortedFinite a0 a2 a3 a4 a5 a6) (n : Fin 100000) : ∃ r : ℝ, Spec.rowScore a0 a3 a4 a5 a6 n = r :=
  Spec.score_real _ _ _ _ _ (fun _ => Spec.real_of (h.fin0 _)) (fun _ _ => Spec.real_of (h.fin3 _)) (fun _ => Spec.real_of (h.fin4 _))
    (fun _ => Spec.real_of (h.fin5 _)) (Spec.real_of (h.fin6 _))

/-- The reference's result is the specification's, under the precondition. -/
theorem reference_result (m' : (ℓ : Loc Cert.ReferenceIdeal.nD Cert.ReferenceIdeal.τ Cert.ReferenceIdeal.sig) → Buf (Elt Ideal) ℓ)
    (c : Dev Cert.ReferenceIdeal.nD) (a0 : Spec.Rows) (a2 : Spec.Ids) (a3 : FVec Ideal (⟨2, ![128, 128]⟩ : Shape) .f32)
    (a4 : FVec Ideal (⟨1, ![128]⟩ : Shape) .f32) (a5 : FVec Ideal (⟨2, ![128, 1]⟩ : Shape) .f32) (a6 : FVec Ideal (⟨1, ![1]⟩ : Shape) .f32)
    (a7 : FVec Ideal (⟨2, ![512, 128]⟩ : Shape) .f32) (a8 : FVec Ideal (⟨1, ![128]⟩ : Shape) .f32) (h : SortedFinite a0 a2 a3 a4 a5 a6)
    (h0 : m' ((c.tc : Thread Cert.ReferenceIdeal.nD Cert.ReferenceIdeal.τ).loc Cert.ReferenceIdeal.main_arg0) = a0)
    (h2 : m' ((c.tc : Thread Cert.ReferenceIdeal.nD Cert.ReferenceIdeal.τ).loc Cert.ReferenceIdeal.main_arg2) = a2)
    (h3 : m' ((c.tc : Thread Cert.ReferenceIdeal.nD Cert.ReferenceIdeal.τ).loc Cert.ReferenceIdeal.main_arg3) = a3)
    (h4 : m' ((c.tc : Thread Cert.ReferenceIdeal.nD Cert.ReferenceIdeal.τ).loc Cert.ReferenceIdeal.main_arg4) = a4)
    (h5 : m' ((c.tc : Thread Cert.ReferenceIdeal.nD Cert.ReferenceIdeal.τ).loc Cert.ReferenceIdeal.main_arg5) = a5)
    (h6 : m' ((c.tc : Thread Cert.ReferenceIdeal.nD Cert.ReferenceIdeal.τ).loc Cert.ReferenceIdeal.main_arg6) = a6)
    (h7 : m' ((c.tc : Thread Cert.ReferenceIdeal.nD Cert.ReferenceIdeal.τ).loc Cert.ReferenceIdeal.main_arg7) = a7)
    (h8 : m' ((c.tc : Thread Cert.ReferenceIdeal.nD Cert.ReferenceIdeal.τ).loc Cert.ReferenceIdeal.main_arg8) = a8) :
    Cert.ReferenceIdeal.Value.res_main_v83 m' c = Spec.result a0 a2 a3 a4 a5 a6 a7 a8 := by
  choose X hX using fun (n : Fin 100000) (k : Fin 128) => Spec.real_of (h.fin0 (ix2 n k))
  choose C hC using rowScore_real h
  exact (RefTerm.res_eq m' c a0 a2 a3 a4 a5 a6 a7 a8 h0 h2 h3 h4 h5 h6 h7 h8).trans
    (RefTerm.result_eq a0 a2 a3 a4 a5 a6 a7 a8 h.range X hX C hC)

/-- The kernel's result equals the reference's, under the precondition. -/
theorem algebraic : Cert.algebraic_KernelIdeal_ReferenceIdeal_pre_sorted_finite := fun m g m' g' hm hargs => by
  have h : ∀ c, SortedFinite (KernelIdeal.A0 m c) (KernelIdeal.A2 m c) (KernelIdeal.A3 m c) (KernelIdeal.A4 m c) (KernelIdeal.A5 m c) (KernelIdeal.A6 m c) :=
    fun c => sortedFinite_of _ _ _ _ _ _ _ _ _ (hm c)
  choose X hX using fun (c : Dev Cert.KernelIdeal.nD) (n : Fin 100000) (k : Fin 128) => Spec.real_of ((h c).fin0 (ix2 n k))
  choose C hC using fun (c : Dev Cert.KernelIdeal.nD) => rowScore_real (h c)
  refine ⟨fun c => Spec.result (KernelIdeal.A0 m c) (KernelIdeal.A2 m c) (KernelIdeal.A3 m c) (KernelIdeal.A4 m c) (KernelIdeal.A5 m c)
    (KernelIdeal.A6 m c) (KernelIdeal.A7 m c) (KernelIdeal.A8 m c), ?_, ?_⟩
  · exact (θ_run _ _ _).mono (fun r hh c => ⟨hh.1 c, hh.2.1 c⟩)
      (θ_run_and (KernelIdeal.run_value m g (fun c n => (h c).range n) (fun c n => (h c).step n) X C hX hC)
        (KernelIdeal.frame m g fun c n => (h c).range n))
  · refine (θ_run _ _ _).mono (fun r hh c => ?_) (Cert.ReferenceIdeal.Value.run m' g')
    obtain ⟨e0, e1, e2, e3, e4, e5, e6, e7, e8⟩ := hargs c
    exact ⟨(hh c).1.trans (reference_result m' c _ _ _ _ _ _ _ _ (h c) e0 e2 e3 e4 e5 e6 e7 e8), (hh c).2⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_segments_in_range
public import proofs.«01_k».proof.Proof.Gen.Pre_sorted_finite
public import proofs.«01_k».proof.Proof.Frames
public import proofs.«01_k».proof.Proof.Algebraic
public import Idealize.ShloMosaic.Adequacy
public import Idealize.ShloMosaic.Init

@[expose] public section

noncomputable section
namespace Cert.Proof

theorem claim : Cert.Claim :=
  ⟨Cert.Kernel.Gen.facts, Cert.KernelIdeal.Gen.facts, Cert.ReferenceIdeal.Gen.facts, Cert.Pre_segments_in_range.Gen.facts,
    Cert.Pre_sorted_finite.Gen.facts, quiescent_kernel, quiescent_kernelIdeal, quiescent_kernelIdeal_sorted,
    quiescent_referenceIdeal, quiescent_referenceIdeal_sorted, trivial, algebraic⟩

end Cert.Proof
end
